-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x64 : Shape := ⟨3, ![2, 4096, 64]⟩
abbrev S2x2 : Shape := ⟨2, ![2, 2]⟩
abbrev S2x64x64 : Shape := ⟨3, ![2, 64, 64]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x64 : S_.BroadcastsInDim S2x4096x64 (![] : Fin 0 → Fin S2x4096x64.rank)
  reducesTo_S2x4096x64_S_d0_1_2 : S2x4096x64.ReducesTo [0, 1, 2] S_
  bcast_S_S2x2 : S_.BroadcastsInDim S2x2 (![] : Fin 0 → Fin S2x2.rank)
  reducesTo_S2x2_S_d0_1 : S2x2.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part1 {F : FTy → Type} [FloatOps F] (main_arg4 : FVec F S2x2 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x2 .f32 := Host.absf main_arg4
  let main_cst_6 : FVec F S_ .f32 := constant S_ .f32 0x7F800000#32
  let main_v20 : FVec F S2x2 .f32 := broadcastInDim S2x2 ![] bcast_S_S2x2 main_cst_6
  let main_v21 : IVec S2x2 1 := cmpf .olt main_v19 main_v20
  let main_c_7 : IVec S_ 1 := constantI S_ 1 1#1
  let main_v22 : IVec S_ 1 := (fun x v => Host.reduce IntOp.andi x v reducesTo_S2x2_S_d0_1 h_S_) main_v21 main_c_7
  let main_v23 : IVec S_ 1 := andi main_v18 main_v22
  main_v23

def fn {F : FTy → Type} [FloatOps F] (main_arg0 : FVec F S2x4096x4096 .f32) (main_arg1 : FVec F S2x4096x64 .f32) (main_arg2 : FVec F S2x2 .f32) (main_arg3 : FVec F S2x64x64 .f32) (main_arg4 : FVec F S2x2 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x64 .f32 := Host.absf main_arg1
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_c_1 : IVec S_ 1 := constantI S_ 1 1#1
  let main_v7 : IVec S_ 1 := (fun x v => Host.reduce IntOp.andi x v reducesTo_S2x4096x64_S_d0_1_2 h_S_) main_v6 main_c_1
  let main_v8 : IVec S_ 1 := andi main_v3 main_v7
  let main_v9 : FVec F S2x2 .f32 := Host.absf main_arg2
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg4 main_v13 main_v16
-- ==== Kernel.lean ====
abbrev S2x4096x4096 : Shape := ⟨3, ![2, 4096, 4096]⟩
abbrev S2x4096x64 : Shape := ⟨3, ![2, 4096, 64]⟩
abbrev S2x2 : Shape := ⟨2, ![2, 2]⟩
abbrev S2x64x64 : Shape := ⟨3, ![2, 64, 64]⟩
abbrev S4096x64 : Shape := ⟨2, ![4096, 64]⟩
abbrev S2x64 : Shape := ⟨2, ![2, 64]⟩
abbrev S2x256x4096 : Shape := ⟨3, ![2, 256, 4096]⟩
abbrev S256x64 : Shape := ⟨2, ![256, 64]⟩
abbrev S1x1 : Shape := ⟨2, ![1, 1]⟩
abbrev S1x4096x64 : Shape := ⟨3, ![1, 4096, 64]⟩
abbrev S1x256x4096 : Shape := ⟨3, ![1, 256, 4096]⟩
abbrev S256x4096 : Shape := ⟨2, ![256, 4096]⟩
abbrev S1x64x64 : Shape := ⟨3, ![1, 64, 64]⟩
abbrev S64x64 : Shape := ⟨2, ![64, 64]⟩
abbrev S64 : Shape := ⟨1, ![64]⟩
abbrev S1x64 : Shape := ⟨2, ![1, 64]⟩
abbrev S1x128 : Shape := ⟨2, ![1, 128]⟩

abbrev nBuf : Space → Nat
  | .hbm => 8
  | .vmem => 9
  | .smem => 2
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x2, .f32⟩
  | .hbm, ⟨3, _⟩ => ⟨S2x64x64, .f32⟩
  | .hbm, ⟨4, _⟩ => ⟨S2x2, .f32⟩
  | .hbm, ⟨5, _⟩ => ⟨S4096x64, .f32⟩
  | .hbm, ⟨6, _⟩ => ⟨S2x64, .f32⟩
  | .hbm, ⟨7, _⟩ => ⟨S1x128, .f32⟩
  | .local _ .vmem, ⟨0, _⟩ => ⟨S2x256x4096, .f32⟩
  | .local _ .vmem, ⟨1, _⟩ => ⟨S2x256x4096, .f32⟩
  | .local _ .vmem, ⟨2, _⟩ => ⟨S2x4096x64, .f32⟩
  | .local _ .vmem, ⟨3, _⟩ => ⟨S2x64x64, .f32⟩
  | .local _ .vmem, ⟨4, _⟩ => ⟨S256x64, .f32⟩
  | .local _ .vmem, ⟨5, _⟩ => ⟨S256x64, .f32⟩
  | .local _ .vmem, ⟨6, _⟩ => ⟨S2x64, .f32⟩
  | .local _ .vmem, ⟨7, _⟩ => ⟨S4096x64, .f32⟩
  | .local _ .vmem, ⟨8, _⟩ => ⟨S2x4096x64, .f32⟩
  | .local _ .smem, ⟨0, _⟩ => ⟨S2x2, .f32⟩
  | .local _ .smem, ⟨1, _⟩ => ⟨S2x2, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c256_i32 : BitVec 32 := 256#32
  let v29 : BitVec 32 := Scalar.muli arg1 c256_i32
  let v30 : Index := Scalar.indexCast v29
  let c0_20 : Index := 0#32
  ![v30.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x4096x4096 : Shape := ⟨3, ![2, 4096, 4096]⟩
abbrev S2x4096x64 : Shape := ⟨3, ![2, 4096, 64]⟩
abbrev S2x2 : Shape := ⟨2, ![2, 2]⟩
abbrev S2x64x64 : Shape := ⟨3, ![2, 64, 64]⟩
abbrev S8192x64 : Shape := ⟨2, ![8192, 64]⟩
abbrev S1x4096x4096 : Shape := ⟨3, ![1, 4096, 4096]⟩
abbrev S4096x4096 : Shape := ⟨2, ![4096, 4096]⟩
abbrev S4096x8192 : Shape := ⟨2, ![4096, 8192]⟩
abbrev S4096x64 : Shape := ⟨2, ![4096, 64]⟩
abbrev S_ : Shape := ⟨0, ![]⟩
abbrev S128x64 : Shape := ⟨2, ![128, 64]⟩
abbrev S4096x128 : Shape := ⟨2, ![4096, 128]⟩
abbrev S128 : Shape := ⟨1, ![128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x2, .f32⟩
  | .hbm, ⟨3, _⟩ => ⟨S2x64x64, .f32⟩
  | .hbm, ⟨4, _⟩ => ⟨S2x2, .f32⟩
  | .hbm, ⟨5, _⟩ => ⟨S2x4096x64, .f32⟩
  | .hbm, ⟨6, _⟩ => ⟨S8192x64, .f32⟩
  | .hbm, ⟨7, _⟩ => ⟨S1x4096x4096, .f32⟩
  | .hbm, ⟨8, _⟩ => ⟨S4096x4096, .f32⟩
  | .hbm, ⟨9, _⟩ => ⟨S1x4096x4096, .f32⟩
  | .hbm, ⟨10, _⟩ => ⟨S4096x4096, .f32⟩
  | .hbm, ⟨11, _⟩ => ⟨S4096x8192, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S2x64x64, .f32⟩
  | .hbm, ⟨17, _⟩ => ⟨S128x64, .f32⟩
  | .hbm, ⟨18, _⟩ => ⟨S1x4096x4096, .f32⟩
  | .hbm, ⟨19, _⟩ => ⟨S4096x4096, .f32⟩
  | .hbm, ⟨20, _⟩ => ⟨S4096x64, .f32⟩
  | .hbm, ⟨21, _⟩ => ⟨S1x4096x4096, .f32⟩
  | .hbm, ⟨22, _⟩ => ⟨S4096x4096, .f32⟩
  | .hbm, ⟨23, _⟩ => ⟨S4096x64, .f32⟩
  | .hbm, ⟨24, _⟩ => ⟨S4096x128, .f32⟩
  | .hbm, ⟨25, _⟩ => ⟨S4096x64, .f32⟩
  | .hbm, ⟨26, _⟩ => ⟨S4096x128, .f32⟩
  | .hbm, ⟨27, _⟩ => ⟨S_, .f32⟩
  | .hbm, ⟨28, _⟩ => ⟨S128, .f32⟩
  | .hbm, ⟨29, _⟩ => ⟨S1x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.ExitRun.lean ====
/-
  A launch whose relational data say, of every array, which contents it may hold after the last write-back, for a program
  that goes on with host lines after its region: the buffers the host lines write are named too, as the lines' values on
  contents the arrays may hold. The order of the ghost steps is the library's for its own launches with host lines.
-/
module

public import Idealize.ShloMosaic.Lib.Pipeline.FrameSuffix

@[expose] public section

noncomputable section

namespace Cert.ExitRun

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

section Arrays

variable {cfg : Cfg sig Λ₀} {c : Dev nD} (rd : RDat τ Val Unit ℕ (UR sig nD τ) ℕ cfg c)

/-- The arrays after `n` points are held at some contents they may have. -/
theorem arrays_open (n : ℕ) :
    (rd.arraysAt n : sProp 𝕄) ⊢ iprop(∃ A, ⌜∀ w, rd.ArrAt w n (A w)⌝ ∗ rd.arrays A) := by
  unfold RDat.arraysAt
  iintro Ha
  ihave Hb := (BI.bigSep_exists_pi Finset.univ (fun w F => iprop(⌜rd.ArrAt w n F⌝
      ∗ (cfg.win w).arr.view.loc (c.tc : Thread nD τ) ↦[(cfg.win w).arr.view.set]{rd.share w} F))) $$ Ha
  icases Hb with ⟨%A, Hb⟩
  ihave Hc := (BI.bigSep_pure_sep Finset.univ (fun w => rd.ArrAt w n (A w))
      (fun w => (cfg.win w).arr.view.loc (c.tc : Thread nD τ) ↦[(cfg.win w).arr.view.set]{rd.share w} A w)) $$ Hb
  icases Hc with ⟨%hA, Hc⟩
  iexists A
  isplitr
  · ipureintro; exact fun w => hA w (Finset.mem_univ w)
  unfold RDat.arrays
  iexact Hc

omit [∀ e, Nonempty (Val e)] in
/-- Arrays held at contents they may have after `n` points are the arrays after `n` points. -/
theorem arrays_close (n : ℕ) (A : (w : Fin cfg.W) → Buf Val ((cfg.win w).arr.view.loc (c.tc : Thread nD τ)))
    (hA : ∀ w, rd.ArrAt w n (A w)) : (rd.arrays A : sProp 𝕄) ⊢ rd.arraysAt n := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ F, ⌜rd.ArrAt w n F⌝ ∗ (cfg.win w).arr.view.loc (c.tc : Thread nD τ) ↦[(cfg.win w).arr.view.set]{rd.share w} F)
  iintro H
  iexists (A w)
  isplitr
  · ipureintro; exact hA w
  iexact H

end Arrays

variable (cfgs : P → Cfg sig Λ₀) (p : P) (kit : LaunchFacts (nD := nD) (τ := τ) cfgs p)
  (defs₀ : Defs nD τ sig Val Λ₀) (𝒱₀ : Variants)

include kit in
/-- The launch: at its end every semaphore counter is zero and, on each core, there are contents the arrays may hold after
    the last write-back such that every buffer that is no array holds what the host lines compute from them, and each
    array holds contents it may hold. -/
theorem run_exit (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => (cfgs q).toPCfg (Val := Val)) defs₀) (onTc main) (s₀ m g) (fun r => (∀ c,
        (∀ w, (rdat c).ArrAt w (cfgs p).N (r.2.mem (((cfgs p).spec w).arr.view.loc (c.tc : Thread nD τ))))
        ∧ ∃ A, (∀ w, (rdat c).ArrAt w (cfgs p).N (A w))
          ∧ ∀ b ∈ restRefsP sig Prefetch.none (cfgs p).spec, r.2.mem ((c.tc : Thread nD τ).loc b)
              = StableHlo.after opss.flatten (withArrays (cfgs p).spec c (V₀ c) A) (Proc.devRef .tc b))
      ∧ r.2.sem = fun _ => 0) := by
  classical
  have kit₀ := (kit.toP (Val := Val)).to₀
  have hq : ∀ c w, ((cfgs p).spec w).isOut = false → (rdat c).q w = shareOf (cfgs p).spec w :=
    fun c w hw => (rdat c).q_eq_shareOf_of_share_full kit.win.arr_inj (hshare c) w hw
  let rest := restRefsP sig Prefetch.none (cfgs p).spec
  let V : (c : Dev nD) → (b : Ref sig .tc) → Buf Val ((c.tc : Thread nD τ).loc b) := fun c b => V₀ c (Proc.devRef .tc b)
  exact RDat.θ_run_region_pf_tail_quiescent (fun q => (cfgs q).toPCfg (Val := Val)) (fun q => (cfgs q).toPCfg_adm (Val := Val)) (RDat.familyOf (fun q => (cfgs q).toPCfg (Val := Val)) (fun q => (cfgs q).toPCfg_adm (Val := Val)) p rdat) () (kit₀.cellOf_inj (fun q => (cfgs q).toPCfg_adm (Val := Val))) p kit₀.win
    (OwnSemFacts.none (cfgs p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin (fun q => (cfgs q).toPCfg (Val := Val)) (fun q => (cfgs q).toPCfg_adm (Val := Val))) (kit₀.cellOf_inj (fun q => (cfgs q).toPCfg_adm (Val := Val)))) (launchToks (pin (fun q => (cfgs q).toPCfg (Val := Val)) (fun q => (cfgs q).toPCfg_adm (Val := Val))) (kit₀.cellOf_inj (fun q => (cfgs q).toPCfg_adm (Val := Val)))))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm (Val := Val))) (kit₀.cellOf_inj (fun q => (cfgs q).toPCfg_adm (Val := Val)))) (launchToks (pin (fun q => (cfgs q).toPCfg (Val := Val)) (fun q => (cfgs q).toPCfg_adm (Val := Val))) (kit₀.cellOf_inj (fun q => (cfgs q).toPCfg_adm (Val := Val)))))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit₀.sharedIn kit₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A : (w : Fin (cfgs p).W) → Buf Val (((cfgs p).win w).arr.view.loc (c.tc : Thread nD τ)),
      ⌜∀ w, (rdat c).ArrAt w (cfgs p).N (A w)⌝ ∗ unscopedRestP (Ix := Unit) (Name := ℕ) (U := UR sig nD τ) (Lvl := ℕ) Prefetch.none (cfgs p).spec c
        (fun b => StableHlo.after opss.flatten (withArrays (cfgs p).spec c (V₀ c) A) (Proc.devRef .tc b))))
    (hX := fun c => by
      iintro ⟨HU, -, -, Hp, -⟩; imodintro
      isplitl [Hp]; · iexists _; iexact Hp
      iexact HU)
    (hin := fun c => by
      rw [RDat.familyOf_self]
      refine (show _ ⊢ ΦA (cfgs p).spec c from ?_).trans (hin c)
      unfold ΦA
      iintro ⟨Hp, -, Hr⟩
      isplitl [Hr] <;> iassumption)
    (hout := fun c => by
      rw [RDat.familyOf_self]
      refine (hout c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arrays_open (rdat c) (cfgs p).N) $$ Ha
      icases Ha' with ⟨%A, %hA', Ha⟩
      have hB : (rdat c).arrays A = arrBufs (cfgs p).spec c (fun b => withArrays (cfgs p).spec c (V₀ c) A (Proc.devRef .tc b)) :=
        ((rdat c).arrBufs_eq_arrays kit₀.sharedIn kit₀.arr_whole (hq c) _ A fun w =>
          (withArrays_arr_shared (cfgs p).spec c (V₀ c) A ((rdat c).ArrAt_sharedIn kit₀.sharedIn (V₀ c) (hA c) (cfgs p).N A hA') w).symm).symm
      iapply (tail_seqs_bufs_b (fun q => (cfgs q).toPCfg (Val := Val)) defs₀ 𝒱₀ Prefetch.none (cfgs p).spec c (V₀ c) A opss hsub hfresh hkeep Q')
      isplitl [Hk]
      · iintro ⟨Hb2, Ha2, Hu⟩
        iapply Hk
        isplitl [Hb2]; · iexact Hb2
        isplitl [Ha2]; · iapply (arrays_close (rdat c) (cfgs p).N A hA'); iapply (Entails.of_eq hB.symm); iexact Ha2
        iexists A
        isplitr
        · ipureintro; exact hA'
        · iexact Hu
      · isplitl [Hb]; · iexact Hb
        isplitl [Ha]; · iapply (Entails.of_eq hB); iexact Ha
        iexact HZ)
    (QY := fun c s => ∃ A, (∀ w, (rdat c).ArrAt w (cfgs p).N (A w)) ∧ ∀ b ∈ rest, s.mem ((c.tc : Thread nD τ).loc b)
      = StableHlo.after opss.flatten (withArrays (cfgs p).spec c (V₀ c) A) (Proc.devRef .tc b))
    (hY := fun c s' => by
      iintro ⟨-, HZ, HSI⟩
      icases HZ with ⟨%A, %hA', HZ⟩
      unfold unscopedRestP
      ihave HZ' := (pointsTo_read_all rest (fun b => (c.tc : Thread nD τ).loc b) (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [RDat.familyOf_self] using (h c).1 w, (h c).2.2⟩, hz⟩)

end Cert.ExitRun

end
-- ==== Proof.KernelIdeal.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.WritesUnit
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first `if`'s word: phase 0 and row block 0. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32

/-! ## The rectangles the body loads and stores through -/

/-- Relation 0 of the kept features. -/
abbrev rG0 : Rect S2x4096x64 := Rect.unit ![0, 0, 0] S1x4096x64.size inb_S2x4096x64_S1x4096x64_0_0_0
/-- Relation 1 of the kept features. -/
abbrev rG1 : Rect S2x4096x64 := Rect.unit ![1, 0, 0] S1x4096x64.size inb_S2x4096x64_S1x4096x64_1_0_0
/-- Relation 0 of the block of adjacency rows. -/
abbrev rA0 : Rect S2x256x4096 := Rect.unit ![0, 0, 0] S1x256x4096.size inb_S2x256x4096_S1x256x4096_0_0_0
/-- Relation 1 of the block of adjacency rows. -/
abbrev rA1 : Rect S2x256x4096 := Rect.unit ![1, 0, 0] S1x256x4096.size inb_S2x256x4096_S1x256x4096_1_0_0
/-- Basis matrix 0 of the second layer. -/
abbrev rW0 : Rect S2x64x64 := Rect.unit ![0, 0, 0] S1x64x64.size inb_S2x64x64_S1x64x64_0_0_0
/-- Basis matrix 1 of the second layer. -/
abbrev rW1 : Rect S2x64x64 := Rect.unit ![1, 0, 0] S1x64x64.size inb_S2x64x64_S1x64x64_1_0_0
/-- Row 0 of the sums. -/
abbrev rF0 : Rect S2x64 := Rect.unit ![0, 0] S1x64.size inb_S2x64_S1x64_0_0
/-- Row 1 of the sums. -/
abbrev rF1 : Rect S2x64 := Rect.unit ![1, 0] S1x64.size inb_S2x64_S1x64_1_0

/-- The entry of a 2 by 2 array a scalar load at `(a, b)` reads. -/
def sc {α : Type} (d : S2x2.Idx → α) (a b : ℕ) (h : ∀ x, (![a, b] : Fin 2 → ℕ) x + S1x1.size x ≤ S2x2.size x) : α :=
  d ((Rect.unit (s := S2x2) ![a, b] S1x1.size h).toLoadRect.idx (Shape.Idx.first (s := S1x1) (by decide)))

/-- First-layer features of relation 0: the basis arrays combined with row 0 of the coefficients. -/
def featA0 (d2 : S2x2.Idx → F .f32) (d5 : S2x4096x64.Idx → F .f32) : FVec F S1x4096x64 .f32 :=
  k0_pay1 (sc d2 0 0 inb_S2x2_S1x1_0_0) (View.ld d5 rG0) (sc d2 0 1 inb_S2x2_S1x1_0_1) (View.ld d5 rG1)

/-- First-layer features of relation 1: the basis arrays combined with row 1 of the coefficients. -/
def featA1 (d2 : S2x2.Idx → F .f32) (d5 : S2x4096x64.Idx → F .f32) : FVec F S1x4096x64 .f32 :=
  k0_pay2 (sc d2 1 0 inb_S2x2_S1x1_1_0) (View.ld d5 rG0) (sc d2 1 1 inb_S2x2_S1x1_1_1) (View.ld d5 rG1)

/-- Second-layer features of relation 0: the rectified first output times the combined basis matrices. -/
def featB0 (d3 : S2x2.Idx → F .f32) (d6 : S2x64x64.Idx → F .f32) (s0 : S4096x64.Idx → F .f32) : FVec F S1x4096x64 .f32 :=
  k0_pay10 s0 (sc d3 0 0 inb_S2x2_S1x1_0_0) (View.ld d6 rW0) (sc d3 0 1 inb_S2x2_S1x1_0_1) (View.ld d6 rW1)

/-- Second-layer features of relation 1. -/
def featB1 (d3 : S2x2.Idx → F .f32) (d6 : S2x64x64.Idx → F .f32) (s0 : S4096x64.Idx → F .f32) : FVec F S1x4096x64 .f32 :=
  k0_pay4 (k0_pay11 s0 (sc d3 1 0 inb_S2x2_S1x1_1_0) (View.ld d6 rW0) (sc d3 1 1 inb_S2x2_S1x1_1_1) (View.ld d6 rW1))

/-- Position `x` of row block `b` in the whole array. -/
def rowAt (b : ℕ) (hb : b < 16) (x : S256x64.Idx) : S4096x64.Idx :=
  fun a => match a with
    | ⟨0, _⟩ => ⟨256 * b + (x 0).val, by have h : (x 0).val < 256 := (x 0).isLt; show 256 * b + (x 0).val < 4096; omega⟩
    | ⟨1, _⟩ => ⟨(x 1).val, (x 1).isLt⟩

/-- The kept features are `a0` for relation 0 and `a1` for relation 1. -/
def KeptG (s1 : S2x4096x64.Idx → F .f32) (a0 a1 : FVec F S1x4096x64 .f32) : Prop :=
  View.ld (Val := Elt F) (e' := .f32) s1 rG0 = a0 ∧ View.ld (Val := Elt F) (e' := .f32) s1 rG1 = a1

/-- The two rows of sums are `a0` and `a1`. -/
def Sums (s8 : S2x64.Idx → F .f32) (a0 a1 : FVec F S1x64 .f32) : Prop :=
  View.ld (Val := Elt F) (e' := .f32) s8 rF0 = a0 ∧ View.ld (Val := Elt F) (e' := .f32) s8 rF1 = a1

/-- Row block `b` of `s0` is `P` and every other row is as in `d9`. -/
def SetRows (s0 d9 : S4096x64.Idx → F .f32) (b : ℕ) (hb : b < 16) (P : S256x64.Idx → F .f32) : Prop :=
  (∀ x, s0 (rowAt b hb x) = P x) ∧ ∀ y : S4096x64.Idx, ((y 0).val < 256 * b ∨ 256 * b + 256 ≤ (y 0).val) → s0 y = d9 y

/-! ## What a load reads after some writes -/

section Reads

variable {κ : Kind} {sp : Space} {s : Shape} {e : EltTy} {Val : EltTy → Type}

/-- Through the newest write's own rectangle: what it wrote. -/
theorem ld_hit (v : View sig κ sp s e) (f : v.ty.Contents Val) (r : Rect s) (w : r.shape.Idx → Val e) (L : List (View.Piece Val s e)) :
    View.ld (v.read Val (v.writes Val f (⟨r, w⟩ :: L))) r = w :=
  funext fun x => View.read_writes_cons_emb v f r w L x

/-- Through a rectangle the newest write does not meet: what the earlier writes left. -/
theorem ld_miss (v : View sig κ sp s e) (f : v.ty.Contents Val) (r' : Rect s) (w : r'.shape.Idx → Val e) (r : Rect s)
    (L : List (View.Piece Val s e)) (h : Disjoint r'.set r.set) :
    View.ld (v.read Val (v.writes Val f (⟨r', w⟩ :: L))) r = View.ld (v.read Val (v.writes Val f L)) r := by
  funext x
  show v.read Val _ (r.emb x) = v.read Val _ (r.emb x)
  rw [View.writes_cons]
  refine View.read_slice_write_of_not_mem _ _ _ _ ?_
  rw [Rect.map_emb_univ]
  exact Finset.disjoint_right.mp h (r.idx_mem x)

/-- A load after a list of writes that covers it, through the newest write's own rectangle. -/
theorem cov_hit [∀ e, Nonempty (Val e)] (v : View sig κ sp s e) (r : Rect s) (w : r.shape.Idx → Val e) (L : List (View.Piece Val s e)) :
    v.readCov (⟨r, w⟩ :: L) r.toLoadRect = w :=
  View.readCov_cons_toLoadRect v r w L

/-- The same through a rectangle the newest write does not meet. -/
theorem cov_miss [∀ e, Nonempty (Val e)] (v : View sig κ sp s e) (r' : Rect s) (w : r'.shape.Idx → Val e) (r : Rect s)
    (L : List (View.Piece Val s e)) (h : Disjoint r'.set r.set) :
    v.readCov (⟨r', w⟩ :: L) r.toLoadRect = v.readCov L r.toLoadRect :=
  View.readCov_cons_of_disjoint v ⟨r', w⟩ L r.toLoadRect h

end Reads

/-- Two rectangles of one slab each along axis 0 of a three-axis array do not meet. -/
theorem disj_G : Disjoint rG1.set rG0.set := by
  rw [Finset.disjoint_left]
  intro y h1 h0
  have a := (Rect.mem_set_unit.mp h1) 0
  have b := (Rect.mem_set_unit.mp h0) 0
  simp at a b
  omega

/-- Row 1 and row 0 of the sums do not meet. -/
theorem disj_F : Disjoint rF1.set rF0.set := by
  rw [Finset.disjoint_left]
  intro y h1 h0
  have a := (Rect.mem_set_unit.mp h1) 0
  have b := (Rect.mem_set_unit.mp h0) 0
  simp at a b
  omega

/-- Inside the written rows: what was written. -/
theorem rows_hit (v : View sig .tc .vmem S4096x64 .f32) (f : v.ty.Contents (Elt F)) (i : grid0.Coords) (h : k0_cond2 i = 1#1)
    (w : (Rect.unit (s := S4096x64) (k0_off1 i) S256x64.size (k0_off1_inb i h)).shape.Idx → F .f32) (x : S256x64.Idx) :
    v.read (Elt F) (v.writes (Elt F) f [(⟨Rect.unit (s := S4096x64) (k0_off1 i) S256x64.size (k0_off1_inb i h), w⟩ : View.Piece (Elt F) S4096x64 .f32)]) (rowAt (i 1).val (i 1).isLt x) = w x :=
  View.read_writes_cons_rows_of_mem v f (k0_off1_inb i h) w [] _ x (k0_off1_eq i) rfl rfl

/-- Outside the written rows: what stood there. -/
theorem rows_miss (v : View sig .tc .vmem S4096x64 .f32) (f : v.ty.Contents (Elt F)) (i : grid0.Coords) (h : k0_cond2 i = 1#1)
    (w : (Rect.unit (s := S4096x64) (k0_off1 i) S256x64.size (k0_off1_inb i h)).shape.Idx → F .f32) (y : S4096x64.Idx)
    (hy : (y 0).val < 256 * (i 1).val ∨ 256 * (i 1).val + 256 ≤ (y 0).val) :
    v.read (Elt F) (v.writes (Elt F) f [(⟨Rect.unit (s := S4096x64) (k0_off1 i) S256x64.size (k0_off1_inb i h), w⟩ : View.Piece (Elt F) S4096x64 .f32)]) y = v.read (Elt F) f y :=
  View.read_writes_cons_rows_of_not_mem v f (k0_off1_inb i h) w [] y (k0_off1_eq i) rfl hy

/-- A store over the whole of the output block leaves what it stored. -/
theorem whole_hit (v : View sig .tc .vmem S256x64 .f32) (f : v.ty.Contents (Elt F))
    (w : (Rect.unit (s := S256x64) ![0, 0] S256x64.size inb_S256x64_S256x64_0_0).shape.Idx → F .f32) :
    v.read (Elt F) (v.writes (Elt F) f [(⟨Rect.unit (s := S256x64) ![0, 0] S256x64.size inb_S256x64_S256x64_0_0, w⟩ : View.Piece (Elt F) S256x64 .f32)]) = w :=
  funext fun y => View.read_writes_cons_rows_of_mem v f inb_S256x64_S256x64_0_0 w [] y y rfl (by simp) rfl

/-- A load of the whole first output reads it. -/
theorem ld_whole9 {α : EltTy → Type} (d : S4096x64.Idx → α .f32) :
    View.ld d (Rect.unit (s := S4096x64) ![0, 0] S4096x64.size inb_S4096x64_S4096x64_0_0) = d :=
  funext fun y => congrArg d (funext fun a => Fin.ext (by
    show (![0, 0] : Fin 2 → ℕ) a + 1 * (y a).val = (y a).val
    revert a
    exact Fin.forall_fin_two.mpr ⟨by simp, by simp⟩))

/-! ## The body's four cases -/

/-- Phase 0, block 0: the first-layer features are made, then the block of the first output. -/
theorem runA (c : Dev nD) (i : grid0.Coords)
    (arg2 : Memref sig .tc .smem S2x2 .f32) (harg2 : arg2.IsWhole) (arg3 : Memref sig .tc .smem S2x2 .f32) (harg3 : arg3.IsWhole)
    (arg4 : Memref sig .tc .vmem S2x256x4096 .f32) (harg4 : arg4.IsWhole) (arg5 : Memref sig .tc .vmem S2x4096x64 .f32) (harg5 : arg5.IsWhole)
    (arg6 : Memref sig .tc .vmem S2x64x64 .f32) (harg6 : arg6.IsWhole) (arg7 : Memref sig .tc .vmem S256x64 .f32) (harg7 : arg7.IsWhole)
    (arg8 : Memref sig .tc .vmem S2x64 .f32) (harg8 : arg8.IsWhole) (arg9 : Memref sig .tc .vmem S4096x64 .f32) (harg9 : arg9.IsWhole)
    (arg10 : Memref sig .tc .vmem S2x4096x64 .f32) (harg10 : arg10.IsWhole)
    (h1 : cond1 i = 1#1) (h2 : k0_cond2 i = 1#1) (h3 : ¬ k0_cond3 i = 1#1) (h4 : ¬ k0_cond4 i = 1#1)
    (d2 : S2x2.Idx → F .f32) (d4 : S2x256x4096.Idx → F .f32) (d5 : S2x4096x64.Idx → F .f32) (d9 : S4096x64.Idx → F .f32) (d10 : S2x4096x64.Idx → F .f32) (K : PUnit → sProp 𝕄) :
    iprop(owns (c : Thread nD τ) arg2 fullShare d2 ∗ owns (c : Thread nD τ) arg4 fullShare d4 ∗ owns (c : Thread nD τ) arg5 fullShare d5 ∗ owns (c : Thread nD τ) arg9 fullShare d9 ∗ owns (c : Thread nD τ) arg10 fullShare d10 ∗
        (iprop(owns (c : Thread nD τ) arg2 fullShare d2 ∗ owns (c : Thread nD τ) arg4 fullShare d4 ∗ owns (c : Thread nD τ) arg5 fullShare d5 ∗ (∃ s0 : S4096x64.Idx → F .f32, owns (c : Thread nD τ) arg9 fullShare s0 ∗ ⌜SetRows s0 d9 (i 1).val (i 1).isLt (k0_pay3 (View.ld d4 rA0) (featA0 d2 d5) (View.ld d4 rA1) (featA1 d2 d5))⌝) ∗ (∃ s1 : S2x4096x64.Idx → F .f32, owns (c : Thread nD τ) arg10 fullShare s1 ∗ ⌜KeptG s1 (featA0 d2 d5) (featA1 d2 d5)⌝)) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10) K := by
  simp only [cc0__body_eq_skeleton, k0_part1_eq_skeleton]; unfold cc0__body_skel
  unfold owns
  iintro ⟨⟨%f2, %e2, H2⟩, ⟨%f4, %e4, H4⟩, ⟨%f5, %e5, H5⟩, ⟨%f9, %e9, H9⟩, ⟨%f10, %e10, H10⟩, Hk⟩
  subst e2
  subst e4
  subst e5
  subst e9
  subst e10
  sl_exec
  sl_step
  iapply Hk
  isplitl [H2]
  · iexists f2; isplitr
    · ipureintro; exact rfl
    · iexact H2
  isplitl [H4]
  · iexists f4; isplitr
    · ipureintro; exact rfl
    · iexact H4
  isplitl [H5]
  · iexists f5; isplitr
    · ipureintro; exact rfl
    · iexact H5
  isplitl [H9]
  · iexists _; isplitl [H9]
    · iexists _; isplitr; swap
      · iexact H9
      · ipureintro; exact rfl
    · ipureintro
      have g0 : runA.sl.v19 (F := F) c arg2 arg5 arg10 f2 f5 = featA0 (arg2.view.read (Elt F) f2) (arg5.view.read (Elt F) f5) := by
        unfold runA.sl.v19 runA.sl.H10_2
        exact (cov_miss _ rG1 _ rG0 _ disj_G).trans (cov_hit _ _ _ _)
      have g1 : runA.sl.v25 (F := F) c arg2 arg5 arg10 f2 f5 = featA1 (arg2.view.read (Elt F) f2) (arg5.view.read (Elt F) f5) := by
        unfold runA.sl.v25 runA.sl.H10_2
        exact cov_hit _ _ _ _
      rw [g0, g1]
      exact ⟨fun x => rows_hit arg9.view f9 i h2 _ x, fun y hy => rows_miss arg9.view f9 i h2 _ y hy⟩
  · iexists _; isplitl [H10]
    · iexists _; isplitr; swap
      · iexact H10
      · ipureintro; exact rfl
    · ipureintro
      unfold runA.sl.H10_2
      exact ⟨(ld_miss _ _ rG1 _ rG0 _ disj_G).trans (ld_hit _ _ _ _ _), ld_hit _ _ _ _ _⟩

/-- Phase 0, a later block: the block of the first output. -/
theorem runB (c : Dev nD) (i : grid0.Coords)
    (arg2 : Memref sig .tc .smem S2x2 .f32) (harg2 : arg2.IsWhole) (arg3 : Memref sig .tc .smem S2x2 .f32) (harg3 : arg3.IsWhole)
    (arg4 : Memref sig .tc .vmem S2x256x4096 .f32) (harg4 : arg4.IsWhole) (arg5 : Memref sig .tc .vmem S2x4096x64 .f32) (harg5 : arg5.IsWhole)
    (arg6 : Memref sig .tc .vmem S2x64x64 .f32) (harg6 : arg6.IsWhole) (arg7 : Memref sig .tc .vmem S256x64 .f32) (harg7 : arg7.IsWhole)
    (arg8 : Memref sig .tc .vmem S2x64 .f32) (harg8 : arg8.IsWhole) (arg9 : Memref sig .tc .vmem S4096x64 .f32) (harg9 : arg9.IsWhole)
    (arg10 : Memref sig .tc .vmem S2x4096x64 .f32) (harg10 : arg10.IsWhole)
    (h1 : ¬ cond1 i = 1#1) (h2 : k0_cond2 i = 1#1) (h3 : ¬ k0_cond3 i = 1#1) (h4 : ¬ k0_cond4 i = 1#1)
    (d4 : S2x256x4096.Idx → F .f32) (d9 : S4096x64.Idx → F .f32) (d10 : S2x4096x64.Idx → F .f32) (K : PUnit → sProp 𝕄) :
    iprop(owns (c : Thread nD τ) arg4 fullShare d4 ∗ owns (c : Thread nD τ) arg9 fullShare d9 ∗ owns (c : Thread nD τ) arg10 fullShare d10 ∗
        (iprop(owns (c : Thread nD τ) arg4 fullShare d4 ∗ (∃ s0 : S4096x64.Idx → F .f32, owns (c : Thread nD τ) arg9 fullShare s0 ∗ ⌜SetRows s0 d9 (i 1).val (i 1).isLt (k0_pay3 (View.ld d4 rA0) (View.ld d10 rG0) (View.ld d4 rA1) (View.ld d10 rG1))⌝) ∗ owns (c : Thread nD τ) arg10 fullShare d10) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10) K := by
  simp only [cc0__body_eq_skeleton, k0_part1_eq_skeleton]; unfold cc0__body_skel
  unfold owns
  iintro ⟨⟨%f4, %e4, H4⟩, ⟨%f9, %e9, H9⟩, ⟨%f10, %e10, H10⟩, Hk⟩
  subst e4
  subst e9
  subst e10
  sl_exec
  sl_step
  iapply Hk
  isplitl [H4]
  · iexists f4; isplitr
    · ipureintro; exact rfl
    · iexact H4
  isplitl [H9]
  · iexists _; isplitl [H9]
    · iexists _; isplitr; swap
      · iexact H9
      · ipureintro; exact rfl
    · ipureintro
      exact ⟨fun x => rows_hit arg9.view f9 i h2 _ x, fun y hy => rows_miss arg9.view f9 i h2 _ y hy⟩
  · iexists f10; isplitr
    · ipureintro; exact rfl
    · iexact H10

/-- Phase 1, block 0: the second-layer features are made, the first output summed, then the first block of the second output. -/
theorem runC (c : Dev nD) (i : grid0.Coords)
    (arg2 : Memref sig .tc .smem S2x2 .f32) (harg2 : arg2.IsWhole) (arg3 : Memref sig .tc .smem S2x2 .f32) (harg3 : arg3.IsWhole)
    (arg4 : Memref sig .tc .vmem S2x256x4096 .f32) (harg4 : arg4.IsWhole) (arg5 : Memref sig .tc .vmem S2x4096x64 .f32) (harg5 : arg5.IsWhole)
    (arg6 : Memref sig .tc .vmem S2x64x64 .f32) (harg6 : arg6.IsWhole) (arg7 : Memref sig .tc .vmem S256x64 .f32) (harg7 : arg7.IsWhole)
    (arg8 : Memref sig .tc .vmem S2x64 .f32) (harg8 : arg8.IsWhole) (arg9 : Memref sig .tc .vmem S4096x64 .f32) (harg9 : arg9.IsWhole)
    (arg10 : Memref sig .tc .vmem S2x4096x64 .f32) (harg10 : arg10.IsWhole)
    (h1 : ¬ cond1 i = 1#1) (h2 : ¬ k0_cond2 i = 1#1) (h3 : k0_cond3 i = 1#1) (h4 : k0_cond4 i = 1#1)
    (d3 : S2x2.Idx → F .f32) (d4 : S2x256x4096.Idx → F .f32) (d6 : S2x64x64.Idx → F .f32) (d7 : S256x64.Idx → F .f32) (d8 : S2x64.Idx → F .f32) (d9 : S4096x64.Idx → F .f32) (d10 : S2x4096x64.Idx → F .f32) (K : PUnit → sProp 𝕄) :
    iprop(owns (c : Thread nD τ) arg3 fullShare d3 ∗ owns (c : Thread nD τ) arg4 fullShare d4 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗
        (iprop(owns (c : Thread nD τ) arg3 fullShare d3 ∗ owns (c : Thread nD τ) arg4 fullShare d4 ∗ owns (c : Thread nD τ) arg6 fullShare d6 ∗ owns (c : Thread nD τ) arg7 fullShare (k0_pay7 (View.ld d4 rA0) (featB0 d3 d6 d9) (View.ld d4 rA1) (featB1 d3 d6 d9)) ∗ (∃ s8 : S2x64.Idx → F .f32, owns (c : Thread nD τ) arg8 fullShare s8 ∗ ⌜Sums s8 (k0_pay5 d9) (k0_pay8 (View.ld d4 rA0) (featB0 d3 d6 d9) (View.ld d4 rA1) (featB1 d3 d6 d9) k0_pay6)⌝) ∗ owns (c : Thread nD τ) arg9 fullShare d9 ∗ (∃ s1 : S2x4096x64.Idx → F .f32, owns (c : Thread nD τ) arg10 fullShare s1 ∗ ⌜KeptG s1 (featB0 d3 d6 d9) (featB1 d3 d6 d9)⌝)) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10) K := by
  simp only [cc0__body_eq_skeleton, k0_part1_eq_skeleton]; unfold cc0__body_skel
  unfold owns
  iintro ⟨⟨%f3, %e3, H3⟩, ⟨%f4, %e4, H4⟩, ⟨%f6, %e6, H6⟩, ⟨%f7, %e7, H7⟩, ⟨%f8, %e8, H8⟩, ⟨%f9, %e9, H9⟩, ⟨%f10, %e10, H10⟩, Hk⟩
  subst e3
  subst e4
  subst e6
  subst e7
  subst e8
  subst e9
  subst e10
  sl_exec
  sl_step
  iapply Hk
  isplitl [H3]
  · iexists f3; isplitr
    · ipureintro; exact rfl
    · iexact H3
  isplitl [H4]
  · iexists f4; isplitr
    · ipureintro; exact rfl
    · iexact H4
  isplitl [H6]
  · iexists f6; isplitr
    · ipureintro; exact rfl
    · iexact H6
  isplitl [H7]
  · iexists _; isplitr; swap
    · iexact H7
    · ipureintro
      have w9 : View.readAt (Elt F) arg9.view (Rect.unit (s := S4096x64) ![0, 0] S4096x64.size inb_S4096x64_S4096x64_0_0).toLoadRect f9 = arg9.view.read (Elt F) f9 := ld_whole9 _
      have g0 : runC.sl.v19 (F := F) c arg3 arg6 arg9 arg10 f3 f6 f9 = featB0 (arg3.view.read (Elt F) f3) (arg6.view.read (Elt F) f6) (arg9.view.read (Elt F) f9) := by
        unfold runC.sl.v19 runC.sl.H10_2
        rw [w9]
        exact (cov_miss _ rG1 _ rG0 _ disj_G).trans (cov_hit _ _ _ _)
      have g1 : runC.sl.v25 (F := F) c arg3 arg6 arg9 arg10 f3 f6 f9 = featB1 (arg3.view.read (Elt F) f3) (arg6.view.read (Elt F) f6) (arg9.view.read (Elt F) f9) := by
        unfold runC.sl.v25 runC.sl.H10_2 runC.sl.r_4
        rw [w9]
        exact cov_hit _ _ _ _
      rw [g0, g1]
      exact whole_hit arg7.view f7 _
  isplitl [H8]
  · iexists _; isplitl [H8]
    · iexists _; isplitr; swap
      · iexact H8
      · ipureintro; exact rfl
    · ipureintro
      have w9 : View.readAt (Elt F) arg9.view (Rect.unit (s := S4096x64) ![0, 0] S4096x64.size inb_S4096x64_S4096x64_0_0).toLoadRect f9 = arg9.view.read (Elt F) f9 := ld_whole9 _
      have g0 : runC.sl.v19 (F := F) c arg3 arg6 arg9 arg10 f3 f6 f9 = featB0 (arg3.view.read (Elt F) f3) (arg6.view.read (Elt F) f6) (arg9.view.read (Elt F) f9) := by
        unfold runC.sl.v19 runC.sl.H10_2
        rw [w9]
        exact (cov_miss _ rG1 _ rG0 _ disj_G).trans (cov_hit _ _ _ _)
      have g1 : runC.sl.v25 (F := F) c arg3 arg6 arg9 arg10 f3 f6 f9 = featB1 (arg3.view.read (Elt F) f3) (arg6.view.read (Elt F) f6) (arg9.view.read (Elt F) f9) := by
        unfold runC.sl.v25 runC.sl.H10_2 runC.sl.r_4
        rw [w9]
        exact cov_hit _ _ _ _
      have g2 : runC.sl.v30 (F := F) c arg8 arg9 f9 = k0_pay6 := by
        unfold runC.sl.v30 runC.sl.H8_2
        exact cov_hit _ _ _ _
      rw [g0, g1, g2]
      unfold runC.sl.H8_2
      rw [w9]
      exact ⟨((ld_miss _ _ rF1 _ rF0 _ disj_F).trans (ld_miss _ _ rF1 _ rF0 _ disj_F)).trans (ld_hit _ _ _ _ _), ld_hit _ _ _ _ _⟩
  isplitl [H9]
  · iexists f9; isplitr
    · ipureintro; exact rfl
    · iexact H9
  · iexists _; isplitl [H10]
    · iexists _; isplitr; swap
      · iexact H10
      · ipureintro; exact rfl
    · ipureintro
      have w9 : View.readAt (Elt F) arg9.view (Rect.unit (s := S4096x64) ![0, 0] S4096x64.size inb_S4096x64_S4096x64_0_0).toLoadRect f9 = arg9.view.read (Elt F) f9 := ld_whole9 _
      unfold runC.sl.H10_2 runC.sl.r_4
      rw [w9]
      exact ⟨(ld_miss _ _ rG1 _ rG0 _ disj_G).trans (ld_hit _ _ _ _ _), ld_hit _ _ _ _ _⟩

/-- Phase 1, a later block: the block of the second output, added into the sums. -/
theorem runD (c : Dev nD) (i : grid0.Coords)
    (arg2 : Memref sig .tc .smem S2x2 .f32) (harg2 : arg2.IsWhole) (arg3 : Memref sig .tc .smem S2x2 .f32) (harg3 : arg3.IsWhole)
    (arg4 : Memref sig .tc .vmem S2x256x4096 .f32) (harg4 : arg4.IsWhole) (arg5 : Memref sig .tc .vmem S2x4096x64 .f32) (harg5 : arg5.IsWhole)
    (arg6 : Memref sig .tc .vmem S2x64x64 .f32) (harg6 : arg6.IsWhole) (arg7 : Memref sig .tc .vmem S256x64 .f32) (harg7 : arg7.IsWhole)
    (arg8 : Memref sig .tc .vmem S2x64 .f32) (harg8 : arg8.IsWhole) (arg9 : Memref sig .tc .vmem S4096x64 .f32) (harg9 : arg9.IsWhole)
    (arg10 : Memref sig .tc .vmem S2x4096x64 .f32) (harg10 : arg10.IsWhole)
    (h1 : ¬ cond1 i = 1#1) (h2 : ¬ k0_cond2 i = 1#1) (h3 : ¬ k0_cond3 i = 1#1) (h4 : k0_cond4 i = 1#1)
    (d4 : S2x256x4096.Idx → F .f32) (d7 : S256x64.Idx → F .f32) (d8 : S2x64.Idx → F .f32) (d9 : S4096x64.Idx → F .f32) (d10 : S2x4096x64.Idx → F .f32) (K : PUnit → sProp 𝕄) :
    iprop(owns (c : Thread nD τ) arg4 fullShare d4 ∗ owns (c : Thread nD τ) arg7 fullShare d7 ∗ owns (c : Thread nD τ) arg8 fullShare d8 ∗ owns (c : Thread nD τ) arg9 fullShare d9 ∗ owns (c : Thread nD τ) arg10 fullShare d10 ∗
        (iprop(owns (c : Thread nD τ) arg4 fullShare d4 ∗ owns (c : Thread nD τ) arg7 fullShare (k0_pay7 (View.ld d4 rA0) (View.ld d10 rG0) (View.ld d4 rA1) (View.ld d10 rG1)) ∗ (∃ s8 : S2x64.Idx → F .f32, owns (c : Thread nD τ) arg8 fullShare s8 ∗ ⌜Sums s8 (View.ld (Val := Elt F) (e' := .f32) d8 rF0) (k0_pay8 (View.ld d4 rA0) (View.ld d10 rG0) (View.ld d4 rA1) (View.ld d10 rG1) (View.ld d8 rF1))⌝) ∗ owns (c : Thread nD τ) arg9 fullShare d9 ∗ owns (c : Thread nD τ) arg10 fullShare d10) -∗ K ⟨⟩))
      ⊢ wp frame (wpE (defs₀ (F := F)) Variants.none c none) Set.univ
          (cc0__body i arg2 harg2 arg3 harg3 arg4 harg4 arg5 harg5 arg6 harg6 arg7 harg7 arg8 harg8 arg9 harg9 arg10 harg10) K := by
  simp only [cc0__body_eq_skeleton, k0_part1_eq_skeleton]; unfold cc0__body_skel
  unfold owns
  iintro ⟨⟨%f4, %e4, H4⟩, ⟨%f7, %e7, H7⟩, ⟨%f8, %e8, H8⟩, ⟨%f9, %e9, H9⟩, ⟨%f10, %e10, H10⟩, Hk⟩
  subst e4
  subst e7
  subst e8
  subst e9
  subst e10
  sl_exec
  sl_step
  iapply Hk
  isplitl [H4]
  · iexists f4; isplitr
    · ipureintro; exact rfl
    · iexact H4
  isplitl [H7]
  · iexists _; isplitr; swap
    · iexact H7
    · ipureintro
      exact whole_hit arg7.view f7 _
  isplitl [H8]
  · iexists _; isplitl [H8]
    · iexists _; isplitr; swap
      · iexact H8
      · ipureintro; exact rfl
    · ipureintro
      exact ⟨ld_miss _ _ rF1 _ rF0 _ disj_F, ld_hit _ _ _ _ _⟩
  isplitl [H9]
  · iexists f9; isplitr
    · ipureintro; exact rfl
    · iexact H9
  · iexists f10; isplitr
    · ipureintro; exact rfl
    · iexact H10

end Cert.KernelIdeal.Hand

end
-- ==== Proof.KernelIdeal.Data.lean ====
module

public import proofs.«01_k».proof.Proof.KernelIdeal.Body
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is -/

theorem N32 : cfg0.N = 32 := by decide

theorem lt32 (t : Fin cfg0.N) : t.val < 32 := lt_of_lt_of_eq t.isLt N32

/-- The point number `n`. -/
def pt (n : ℕ) : Fin cfg0.N := ⟨n % 32, by rw [N32]; exact Nat.mod_lt _ (by decide)⟩

theorem pt_val (t : Fin cfg0.N) : pt t.val = t :=
  Fin.ext (Nat.mod_eq_of_lt (lt32 t))

theorem cond1_at : ∀ t : Fin cfg0.N, cond1 (cfg0.grid.coords t) = 1#1 ↔ t.val = 0 := by decide +kernel
theorem cond2_at : ∀ t : Fin cfg0.N, k0_cond2 (cfg0.grid.coords t) = 1#1 ↔ t.val < 16 := by decide +kernel
theorem cond3_at : ∀ t : Fin cfg0.N, k0_cond3 (cfg0.grid.coords t) = 1#1 ↔ t.val = 16 := by decide +kernel
theorem cond4_at : ∀ t : Fin cfg0.N, k0_cond4 (cfg0.grid.coords t) = 1#1 ↔ 16 ≤ t.val := by decide +kernel
theorem row_at : ∀ t : Fin cfg0.N, (cfg0.grid.coords t 1).val = t.val % 16 := by decide +kernel

/-! ## What the points compute -/

/-- The block of adjacency rows at point `t`. -/
def ablk (c : Dev nD) (t : Fin cfg0.N) : S2x256x4096.Idx → F .f32 := iblk m c 2 t

/-- First-layer features, made at point 0: relation 0. -/
def GA0 (c : Dev nD) : FVec F S1x4096x64 .f32 := featA0 (iblk m c 0 (pt 0)) (iblk m c 3 (pt 0))
/-- First-layer features: relation 1. -/
def GA1 (c : Dev nD) : FVec F S1x4096x64 .f32 := featA1 (iblk m c 0 (pt 0)) (iblk m c 3 (pt 0))

/-- Block `b` of the first output. -/
def O0 (c : Dev nD) (b : ℕ) : FVec F S256x64 .f32 :=
  k0_pay3 (View.ld (ablk m c (pt b)) rA0) (GA0 m c) (View.ld (ablk m c (pt b)) rA1) (GA1 m c)

/-- The place of a row within its block of 256. -/
def locOf (y : S4096x64.Idx) : S256x64.Idx :=
  fun a => match a with
    | ⟨0, _⟩ => ⟨(y 0).val % 256, Nat.mod_lt _ (by decide)⟩
    | ⟨1, _⟩ => ⟨(y 1).val, (y 1).isLt⟩

theorem blk_lt (y : S4096x64.Idx) : (y 0).val / 256 < 16 := by
  have h : (y 0).val < 4096 := (y 0).isLt
  omega

theorem rowAt_locOf (y : S4096x64.Idx) : rowAt ((y 0).val / 256) (blk_lt y) (locOf y) = y := by
  funext a
  refine Fin.ext ?_
  match a with
  | ⟨0, _⟩ => exact Nat.div_add_mod _ _
  | ⟨1, _⟩ => rfl

/-- The first output, whole. -/
def OUT0 (c : Dev nD) : FVec F S4096x64 .f32 := fun y => O0 m c ((y 0).val / 256) (locOf y)

/-- Second-layer features, made at point 16: relation 0. -/
def GB0 (c : Dev nD) : FVec F S1x4096x64 .f32 := featB0 (iblk m c 1 (pt 16)) (iblk m c 4 (pt 16)) (OUT0 m c)
/-- Second-layer features: relation 1. -/
def GB1 (c : Dev nD) : FVec F S1x4096x64 .f32 := featB1 (iblk m c 1 (pt 16)) (iblk m c 4 (pt 16)) (OUT0 m c)

/-- The block of the second output made at point `t`. -/
def O1 (c : Dev nD) (t : Fin cfg0.N) : FVec F S256x64 .f32 :=
  k0_pay7 (View.ld (ablk m c t) rA0) (GB0 m c) (View.ld (ablk m c t) rA1) (GB1 m c)

/-- The second output's column sums over the blocks made at points 16 to `16 + n`. -/
def Fsum (c : Dev nD) : ℕ → FVec F S1x64 .f32
  | 0 => k0_pay8 (View.ld (ablk m c (pt 16)) rA0) (GB0 m c) (View.ld (ablk m c (pt 16)) rA1) (GB1 m c) k0_pay6
  | n + 1 => k0_pay8 (View.ld (ablk m c (pt (17 + n))) rA0) (GB0 m c) (View.ld (ablk m c (pt (17 + n))) rA1) (GB1 m c) (Fsum c n)

/-! ## The data -/

/-- The two outputs are described by a relation; the inputs are named. -/
def marked : Fin cfg0.W → Bool := fun w => decide (5 ≤ w.val)

/-- What the body may leave in the outputs' staging buffers at point `t`: from point 16 on, the block of the second
output, and the two rows of sums so far. -/
def Rl (c : Dev nD) : (w : Fin cfg0.W) → Fin cfg0.N → ((cfg0.win w).block.Idx → Elt F (cfg0.win w).elt) → Prop
  | ⟨5, _⟩ => fun t X => 16 ≤ t.val → X = O1 m c t
  | ⟨6, _⟩ => fun t X => 16 ≤ t.val → Sums X (k0_pay5 (OUT0 m c)) (Fsum m c (t.val - 16))
  | ⟨0, _⟩ => fun _ _ => True
  | ⟨1, _⟩ => fun _ _ => True
  | ⟨2, _⟩ => fun _ _ => True
  | ⟨3, _⟩ => fun _ _ => True
  | ⟨4, _⟩ => fun _ _ => True
  | ⟨_ + 7, h⟩ => absurd h (Nat.not_lt.2 (Nat.le_add_left _ _))

/-- What the two scratch buffers hold before point `t`: the features of the layer under way, and the blocks of the
first output made so far. -/
def Inv (c : Dev nD) (t : ℕ) (s0 : S4096x64.Idx → F .f32) (s1 : S2x4096x64.Idx → F .f32) : Prop :=
  (1 ≤ t → t ≤ 16 → KeptG s1 (GA0 m c) (GA1 m c)) ∧ (17 ≤ t → KeptG s1 (GB0 m c) (GB1 m c))
    ∧ ∀ b (hb : b < 16), b < t → ∀ x, s0 (rowAt b hb x) = O0 m c b x

/-- The invariant before point `t`: the scratch buffers at contents that meet `Inv`, the generator register at some state. -/
def PhiR (c : Dev nD) (t : ℕ) : sProp 𝕄 :=
  iprop(∃ s0 : S4096x64.Idx → F .f32, ∃ s1 : S2x4096x64.Idx → F .f32,
    owns (c : Thread nD τ) (Memref.whole cc0_scratch0) fullShare s0 ∗ owns (c : Thread nD τ) (Memref.whole cc0_scratch1) fullShare s1
      ∗ (∃ r, prngReg c r) ∗ ⌜Inv m c t s0 s1⌝)

/-- What the body leaves in the windows: each input's block as it was; of the outputs nothing is named here. -/
def afterD (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => Dat.unnamed (cfg := cfg0) 5 t
  | ⟨6, _⟩ => fun t => Dat.unnamed (cfg := cfg0) 6 t
  | ⟨_ + 7, h⟩ => absurd h (Nat.not_lt.2 (Nat.le_add_left _ _))

/-- The proof data on core `c`: each array as the region finds it, each input's block left in place, the invariant `PhiR`. -/
def dats (_ : Fin 1) (c : Dev nD) : Dat τ (Elt F) Unit ℕ (UR sig nD τ) ℕ cfg0 c where
  A w := V m c (Pipeline.arrRef spec0 w)
  after := afterD m c
  Φ t := PhiR m c t.val
  q _ := fullShare
  owed _ := 0

theorem A_eq (c : Dev nD) (w : Fin cfg0.W) : (dats m 0 c).A w = V m c (Pipeline.arrRef spec0 w) := by dsimp only [dats]

/-- The relational data. -/
def rdat (c : Dev nD) : RDat τ (Elt F) Unit ℕ (UR sig nD τ) ℕ cfg0 c := (dats m 0 c).toRRel marked (Rl m c)

/-- At point 17 and later the sums' buffer holds what the point before left. -/
theorem finds6 (c : Dev nD) (t : Fin cfg0.N) (ht : 17 ≤ t.val) (Y : S2x64.Idx → F .f32)
    (h : (rdat m c).Finds 6 t Y) : Sums Y (k0_pay5 (OUT0 m c)) (Fsum m c (t.val - 17)) := by
  have hf : (cfg0.win 6).fetch t = false := rfl
  have h2 := ((rdat m c).finds_of_pos hf (by omega) Y).mp h
  have hN := lt32 t
  rcases h2 with h2 | h2
  · have := (flush0_6 _).mp h2
    dsimp only at this
    omega
  · have h3 : Rl m c 6 _ Y := (dats m 0 c).toRRel_leaves (w := 6) (by decide) h2
    have h4 := h3 (by dsimp only; omega)
    rw [show t.val - 17 = t.val - 1 - 16 by omega]
    exact h4

/-! ## The body obligation -/

/-- What the body is called with at point `t`. -/
def bodyPre (c : Dev nD) (t : Fin cfg0.N) : sProp 𝕄 :=
  iprop(PhiR m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y))

/-- What it returns. -/
def bodyPost (c : Dev nD) (t : Fin cfg0.N) : sProp 𝕄 :=
  iprop(PhiR m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, ⌜16 ≤ t.val → X = O1 m c t⌝ ∗ owns (c : Thread nD τ) (st0_5 t) fullShare X)
    ∗ (∃ X, ⌜16 ≤ t.val → Sums X (k0_pay5 (OUT0 m c)) (Fsum m c (t.val - 16))⌝ ∗ owns (c : Thread nD τ) (st0_6 t) fullShare X))

/-- The invariant after point 0. -/
theorem inv_A (c : Dev nD) (t : Fin cfg0.N) (ht : t.val = 0) (d9 s0 : S4096x64.Idx → F .f32) (s1 : S2x4096x64.Idx → F .f32)
    (h0 : SetRows s0 d9 (cfg0.grid.coords t 1).val (cfg0.grid.coords t 1).isLt
      (k0_pay3 (View.ld (ablk m c t) rA0) (featA0 (iblk m c 0 t) (iblk m c 3 t)) (View.ld (ablk m c t) rA1) (featA1 (iblk m c 0 t) (iblk m c 3 t))))
    (h1 : KeptG s1 (featA0 (iblk m c 0 t) (iblk m c 3 t)) (featA1 (iblk m c 0 t) (iblk m c 3 t))) : Inv m c (t.val + 1) s0 s1 := by
  obtain rfl : t = pt 0 := Fin.ext ht
  refine ⟨fun _ _ => h1, fun h => by rw [ht] at h; omega, fun b hb hbt x => ?_⟩
  obtain rfl : b = 0 := by rw [ht] at hbt; omega
  exact h0.1 x

/-- The invariant after a later point of phase 0. -/
theorem inv_B (c : Dev nD) (t : Fin cfg0.N) (ht : t.val ≠ 0) (ht' : t.val < 16) (d9 s0 : S4096x64.Idx → F .f32) (s1 : S2x4096x64.Idx → F .f32)
    (hI : Inv m c t.val d9 s1)
    (h0 : SetRows s0 d9 (cfg0.grid.coords t 1).val (cfg0.grid.coords t 1).isLt
      (k0_pay3 (View.ld (ablk m c t) rA0) (View.ld s1 rG0) (View.ld (ablk m c t) rA1) (View.ld s1 rG1))) : Inv m c (t.val + 1) s0 s1 := by
  have hK := hI.1 (by omega) (by omega)
  refine ⟨fun _ _ => hK, fun h => by omega, fun b hb hbt x => ?_⟩
  have hr : (cfg0.grid.coords t 1).val = t.val := by rw [row_at, Nat.mod_eq_of_lt ht']
  by_cases hbe : b = t.val
  · have h := h0.1 x
    rw [hK.1, hK.2] at h
    subst hbe
    unfold O0
    rw [pt_val]
    rw [← h]
    congr 1
    funext a
    match a with
    | ⟨0, _⟩ => exact Fin.ext (by show 256 * t.val + (x 0).val = 256 * (cfg0.grid.coords t 1).val + (x 0).val; rw [hr])
    | ⟨1, _⟩ => rfl
  · rw [h0.2 _ (Or.inl ?_)]
    · exact hI.2.2 b hb (by omega) x
    · have hx : (x 0).val < 256 := (x 0).isLt
      show 256 * b + (x 0).val < 256 * (cfg0.grid.coords t 1).val
      rw [hr]
      omega

/-- After phase 0 the first scratch buffer is the first output. -/
theorem inv_out0 (c : Dev nD) (t : ℕ) (ht : 16 ≤ t) (s0 : S4096x64.Idx → F .f32) (s1 : S2x4096x64.Idx → F .f32)
    (hI : Inv m c t s0 s1) : s0 = OUT0 m c := by
  funext y
  have h := hI.2.2 ((y 0).val / 256) (blk_lt y) (lt_of_lt_of_le (blk_lt y) ht) (locOf y)
  rw [rowAt_locOf] at h
  exact h

end Cert.KernelIdeal.Hand

end
-- ==== Proof.KernelIdeal.Obligation.lean ====
module

public import proofs.«01_k».proof.Proof.KernelIdeal.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input's buffer holds its block at every point. -/
theorem pre_eq (c : Dev nD) (t : Fin cfg0.N) :
    bodyPre m c t ⊢ iprop(PhiR m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)) := by
  unfold bodyPre
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t]
  iintro ⟨H, HO, ⟨%d0, H0⟩, ⟨%d1, H1⟩, ⟨%d2, H2⟩, ⟨%d3, H3⟩, ⟨%d4, H4⟩, H5, H6⟩
  isplitl [H]; · iexact H
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The invariant after point 16. -/
theorem inv_C (c : Dev nD) (t : Fin cfg0.N) (ht : t.val = 16) (s1 s1' : S2x4096x64.Idx → F .f32) (hI : Inv m c t.val (OUT0 m c) s1)
    (h1 : KeptG s1' (featB0 (iblk m c 1 t) (iblk m c 4 t) (OUT0 m c)) (featB1 (iblk m c 1 t) (iblk m c 4 t) (OUT0 m c))) :
    Inv m c (t.val + 1) (OUT0 m c) s1' := by
  refine ⟨fun _ h => by omega, fun _ => ?_, fun b hb _ x => hI.2.2 b hb (by omega) x⟩
  obtain rfl : t = pt 16 := Fin.ext ht
  exact h1

/-- The invariant after a later point of phase 1. -/
theorem inv_D (c : Dev nD) (t : Fin cfg0.N) (ht : 17 ≤ t.val) (s0 : S4096x64.Idx → F .f32) (s1 : S2x4096x64.Idx → F .f32)
    (hI : Inv m c t.val s0 s1) : Inv m c (t.val + 1) s0 s1 :=
  ⟨fun _ h => by omega, fun _ => hI.2.1 ht, fun b hb _ x => hI.2.2 b hb (by omega) x⟩

/-- The block a later point of phase 1 computes. -/
theorem o1_D (c : Dev nD) (t : Fin cfg0.N) (s1 : S2x4096x64.Idx → F .f32) (hK : KeptG s1 (GB0 m c) (GB1 m c)) :
    k0_pay7 (View.ld (ablk m c t) rA0) (View.ld s1 rG0) (View.ld (ablk m c t) rA1) (View.ld s1 rG1) = O1 m c t := by
  rw [hK.1, hK.2]
  rfl

/-- The sums after a later point of phase 1. -/
theorem sums_D (c : Dev nD) (t : Fin cfg0.N) (ht : 17 ≤ t.val) (s1 : S2x4096x64.Idx → F .f32) (y s8 : S2x64.Idx → F .f32)
    (hK : KeptG s1 (GB0 m c) (GB1 m c)) (hY : Sums y (k0_pay5 (OUT0 m c)) (Fsum m c (t.val - 17)))
    (h : Sums s8 (View.ld (Val := Elt F) (e' := .f32) y rF0)
      (k0_pay8 (View.ld (ablk m c t) rA0) (View.ld s1 rG0) (View.ld (ablk m c t) rA1) (View.ld s1 rG1) (View.ld y rF1))) :
    Sums s8 (k0_pay5 (OUT0 m c)) (Fsum m c (t.val - 16)) := by
  rw [hK.1, hK.2, hY.1, hY.2] at h
  obtain ⟨n, hn⟩ : ∃ n, t.val = 17 + n := ⟨t.val - 17, by omega⟩
  have e1 : t.val - 16 = n + 1 := by omega
  have e2 : t.val - 17 = n := by omega
  have e3 : pt (17 + n) = t := by rw [← hn]; exact pt_val t
  rw [e1]
  show Sums s8 _ (k0_pay8 (View.ld (ablk m c (pt (17 + n))) rA0) (GB0 m c) (View.ld (ablk m c (pt (17 + n))) rA1) (GB1 m c) (Fsum m c n))
  rw [e3, ← e2]
  exact h

/-- The body at point 0. -/
theorem sound_A (c : Dev nD) (t : Fin cfg0.N) (ht : t.val = 0) :
    bodyPre m c t ⊢ wp frame (wpE (defs₀ (F := F)) Variants.none c none) Set.univ (bodyAt0 t) (fun _ => bodyPost m c t) := by
  refine (pre_eq m c t).trans ?_
  unfold PhiR bodyPost bodyAt0
  iintro ⟨⟨%s0, %s1, S0, S1, Hr, %hI⟩, HO, H0, H1, H2, H3, H4, ⟨%y5, %f5, H5⟩, ⟨%y6, %f6, H6⟩⟩
  iapply (runA c (cfg0.grid.coords t) _ _ _ _ _ _ _ _ _ _ _ _ _ _ _ _ _ _
    ((cond1_at t).mpr (by omega)) ((cond2_at t).mpr (by omega)) (fun h => by have := (cond3_at t).mp h; omega) (fun h => by have := (cond4_at t).mp h; omega) _ _ _ _ _ _)
  isplitl [H0]; · iexact H0
  isplitl [H2]; · iexact H2
  isplitl [H3]; · iexact H3
  isplitl [S0]; · iexact S0
  isplitl [S1]; · iexact S1
  iintro ⟨H0, H2, H3, ⟨%s0', S0, %hs0⟩, ⟨%s1', S1, %hs1⟩⟩
  isplitl [S0 S1 Hr]
  · unfold PhiR
    iexists s0', s1'
    isplitl [S0]; · iexact S0
    isplitl [S1]; · iexact S1
    isplitl [Hr]; · iexact Hr
    ipureintro
    exact inv_A m c t ht s0 s0' s1' hs0 hs1
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap
    · iexact H5
    · ipureintro
      exact fun h => by omega
  · iexists _; isplitr; swap
    · iexact H6
    · ipureintro
      exact fun h => by omega

/-- The body at a later point of phase 0. -/
theorem sound_B (c : Dev nD) (t : Fin cfg0.N) (ht : t.val ≠ 0) (ht' : t.val < 16) :
    bodyPre m c t ⊢ wp frame (wpE (defs₀ (F := F)) Variants.none c none) Set.univ (bodyAt0 t) (fun _ => bodyPost m c t) := by
  refine (pre_eq m c t).trans ?_
  unfold PhiR bodyPost bodyAt0
  iintro ⟨⟨%s0, %s1, S0, S1, Hr, %hI⟩, HO, H0, H1, H2, H3, H4, ⟨%y5, %f5, H5⟩, ⟨%y6, %f6, H6⟩⟩
  iapply (runB c (cfg0.grid.coords t) _ _ _ _ _ _ _ _ _ _ _ _ _ _ _ _ _ _
    (fun h => by have := (cond1_at t).mp h; omega) ((cond2_at t).mpr (by omega)) (fun h => by have := (cond3_at t).mp h; omega) (fun h => by have := (cond4_at t).mp h; omega) _ _ _ _)
  isplitl [H2]; · iexact H2
  isplitl [S0]; · iexact S0
  isplitl [S1]; · iexact S1
  iintro ⟨H2, ⟨%s0', S0, %hs0⟩, S1⟩
  isplitl [S0 S1 Hr]
  · unfold PhiR
    iexists s0', s1
    isplitl [S0]; · iexact S0
    isplitl [S1]; · iexact S1
    isplitl [Hr]; · iexact Hr
    ipureintro
    exact inv_B m c t ht ht' s0 s0' s1 hI hs0
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap
    · iexact H5
    · ipureintro
      exact fun h => by omega
  · iexists _; isplitr; swap
    · iexact H6
    · ipureintro
      exact fun h => by omega

/-- The body at point 16. -/
theorem sound_C (c : Dev nD) (t : Fin cfg0.N) (ht : t.val = 16) :
    bodyPre m c t ⊢ wp frame (wpE (defs₀ (F := F)) Variants.none c none) Set.univ (bodyAt0 t) (fun _ => bodyPost m c t) := by
  refine (pre_eq m c t).trans ?_
  unfold PhiR bodyPost bodyAt0
  iintro ⟨⟨%s0, %s1, S0, S1, Hr, %hI⟩, HO, H0, H1, H2, H3, H4, ⟨%y5, %f5, H5⟩, ⟨%y6, %f6, H6⟩⟩
  obtain rfl := inv_out0 m c t.val (by omega) s0 s1 hI
  iapply (runC c (cfg0.grid.coords t) _ _ _ _ _ _ _ _ _ _ _ _ _ _ _ _ _ _
    (fun h => by have := (cond1_at t).mp h; omega) (fun h => by have := (cond2_at t).mp h; omega) ((cond3_at t).mpr (by omega)) ((cond4_at t).mpr (by omega)) _ _ _ _ _ _ _ _)
  isplitl [H1]; · iexact H1
  isplitl [H2]; · iexact H2
  isplitl [H4]; · iexact H4
  isplitl [H5]; · iexact H5
  isplitl [H6]; · iexact H6
  isplitl [S0]; · iexact S0
  isplitl [S1]; · iexact S1
  iintro ⟨H1, H2, H4, H5, ⟨%s8, H6, %hs8⟩, S0, ⟨%s1', S1, %hs1⟩⟩
  isplitl [S0 S1 Hr]
  · unfold PhiR
    iexists (OUT0 m c), s1'
    isplitl [S0]; · iexact S0
    isplitl [S1]; · iexact S1
    isplitl [Hr]; · iexact Hr
    ipureintro
    exact inv_C m c t ht s1 s1' hI hs1
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap
    · iexact H5
    · ipureintro
      exact fun _ => by obtain rfl : t = pt 16 := Fin.ext ht; rfl
  · iexists _; isplitr; swap
    · iexact H6
    · ipureintro
      exact fun _ => by
        obtain rfl : t = pt 16 := Fin.ext ht
        exact hs8

/-- The body at a later point of phase 1. -/
theorem sound_D (c : Dev nD) (t : Fin cfg0.N) (ht : 17 ≤ t.val) :
    bodyPre m c t ⊢ wp frame (wpE (defs₀ (F := F)) Variants.none c none) Set.univ (bodyAt0 t) (fun _ => bodyPost m c t) := by
  refine (pre_eq m c t).trans ?_
  unfold PhiR bodyPost bodyAt0
  iintro ⟨⟨%s0, %s1, S0, S1, Hr, %hI⟩, HO, H0, H1, H2, H3, H4, ⟨%y5, %f5, H5⟩, ⟨%y6, %f6, H6⟩⟩
  have hK := hI.2.1 ht
  have hY := finds6 m c t ht y6 f6
  iapply (runD c (cfg0.grid.coords t) _ _ _ _ _ _ _ _ _ _ _ _ _ _ _ _ _ _
    (fun h => by have := (cond1_at t).mp h; omega) (fun h => by have := (cond2_at t).mp h; omega) (fun h => by have := (cond3_at t).mp h; omega) ((cond4_at t).mpr (by omega)) _ _ _ _ _ _)
  isplitl [H2]; · iexact H2
  isplitl [H5]; · iexact H5
  isplitl [H6]; · iexact H6
  isplitl [S0]; · iexact S0
  isplitl [S1]; · iexact S1
  iintro ⟨H2, H5, ⟨%s8, H6, %hs8⟩, S0, S1⟩
  isplitl [S0 S1 Hr]
  · unfold PhiR
    iexists s0, s1
    isplitl [S0]; · iexact S0
    isplitl [S1]; · iexact S1
    isplitl [Hr]; · iexact Hr
    ipureintro
    exact inv_D m c t ht s0 s1 hI
  isplitl [HO]; · iexact HO
  isplitl [H0]; · iexact H0
  isplitl [H1]; · iexact H1
  isplitl [H2]; · iexact H2
  isplitl [H3]; · iexact H3
  isplitl [H4]; · iexact H4
  isplitl [H5]
  · iexists _; isplitr; swap
    · iexact H5
    · ipureintro
      exact fun _ => o1_D m c t s1 hK
  · iexists _; isplitr; swap
    · iexact H6
    · ipureintro
      exact fun _ => sums_D m c t ht s1 y6 s8 hK hY hs8

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 16
  · exact sound_B m c t h0 h1
  by_cases h2 : t.val = 16
  · exact sound_C m c t h2
  · exact sound_D m c t (by omega)

/-- The body table's row at the point is the body as `bodyAt0` spells it. -/
theorem row_eq (t : Fin cfg0.N) : defs₀ (F := F) .tc cfg0.body (cfg0.bodyArgs t (cfg0.slots t)) = bodyAt0 t := by
  unfold defs₀; rw [Defs.onTc_tc]

/-- The body obligation of the relational data. -/
theorem obligation_rel (c : Dev nD) : BodyObligationRel (dats m 0 c) (defs₀ (F := F)) Variants.none () Set.univ marked (Rl m c) := fun t => by
  rw [bigSep_W0, bigSep_W0, row_eq]
  exact triple_restated (sound_body m c t) rfl .rfl fun _ => .rfl

theorem obligation (c : Dev nD) : (rdat m c).BodyObligation (defs₀ (F := F)) Variants.none () Set.univ :=
  (obligation_rel m c).toRRel

end Cert.KernelIdeal.Hand

end
-- ==== Proof.KernelIdeal.Launch.lean ====
module

public import proofs.«01_k».proof.Proof.KernelIdeal.Obligation
public import proofs.«01_k».proof.Proof.ExitRun
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry and exit of the region -/

/-- At entry nothing is asked of the scratch buffers. -/
theorem phi_in (c : Dev nD) : (Pipeline.ΦA spec0 c : sProp 𝕄) ⊢ (rdat m c).Φ 0 := by
  show _ ⊢ PhiR m c 0
  unfold Pipeline.ΦA PhiR
  rw [scopedRest0_eq]
  simp only [owns_whole]
  iintro ⟨⟨⟨%f0, H0⟩, ⟨%f1, H1⟩⟩, Hp⟩
  iexists f0, f1
  isplitl [H0]; · iexact H0
  isplitl [H1]; · iexact H1
  isplitl [Hp]; · iexact Hp
  ipureintro
  exact ⟨fun h => by omega, fun h => by omega, fun b _ h => by omega⟩

/-- At exit their contents are given up. -/
theorem phi_out (c : Dev nD) : (rdat m c).Φ (Fin.last cfg0.N) ⊢ (Pipeline.ΦA spec0 c : sProp 𝕄) := by
  show PhiR m c (Fin.last cfg0.N).val ⊢ _
  unfold Pipeline.ΦA PhiR
  rw [scopedRest0_eq]
  simp only [owns_whole]
  iintro ⟨%f0, %f1, H0, H1, Hp, -⟩
  isplitl [H0 H1]
  · isplitl [H0]
    · iexists f0; iexact H0
    · iexists f1; iexact H1
  iexact Hp

/-- The launch, with the arrays and the host line's result described. -/
theorem launched : θ_run defs (onTc (τ := τ) (main (F := F))) ⟨m, fun _ => 0, ρ⟩ (fun r => (∀ c : Dev nD,
      (∀ w, (rdat m c).ArrAt w cfg0.N (r.2.mem ((spec0 w).arr.view.loc (c.tc : Thread nD τ))))
      ∧ ∃ A, (∀ w, (rdat m c).ArrAt w cfg0.N (A w))
        ∧ ∀ b ∈ Pipeline.restRefsP sig Pipeline.Prefetch.none spec0, r.2.mem ((c.tc : Thread nD τ).loc b)
            = StableHlo.after (List.flatten [hostOps1]) (Pipeline.withArrays spec0 c (V0 m c) A) (Proc.devRef .tc b))
    ∧ r.2.sem = fun _ => 0) :=
  Cert.ExitRun.run_exit cfgs 0 launch0 defs₀ Variants.none (rdat m) m ρ main (obligation m) (fun c w => by
      unfold RDat.share; split <;> rfl) (fun c t => rfl) (V0 m) [hostOps1] sfx_sub sfx_fresh sfx_keeps (hmain m Variants.none)
    (fun c w => rfl) (phi_in m) (phi_out m)

end Cert.KernelIdeal.Hand

end
-- ==== Proof.KernelIdeal.Final.lean ====
module

public import proofs.«01_k».proof.Proof.KernelIdeal.Launch
public import Idealize.ShloMosaic.Lib.Pipeline.ArrRel
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the end -/

/-- The second output, whole. -/
def OUT1 (c : Dev nD) : FVec F S4096x64 .f32 := fun y => O1 m c (pt (16 + (y 0).val / 256)) (locOf y)

/-- The place `(0, b)` of a row of 64. -/
def rowIdx (b : Fin 64) : S1x64.Idx :=
  fun a => match a with
    | ⟨0, _⟩ => ⟨0, Nat.one_pos⟩
    | ⟨1, _⟩ => b

/-- The two rows of column sums. -/
def ROWS (c : Dev nD) : FVec F S2x64 .f32 := fun j =>
  if (j 0).val = 0 then k0_pay5 (OUT0 m c) (rowIdx (j 1)) else Fsum m c 15 (rowIdx (j 1))

theorem index5_0 : ∀ t : Fin cfg0.N, (cfg0.win 5).index t 0 = t.val % 16 := by decide +kernel
theorem index5_1 : ∀ t : Fin cfg0.N, (cfg0.win 5).index t 1 = 0 := by decide +kernel

/-- A write-back of the second output's block lands at rows `256 * (t % 16)` and on. -/
theorem emb5 (t : Fin cfg0.N) (y : S256x64.Idx) :
    (((cfg0.win 5).blk t).view.emb y : S4096x64.Idx) = rowAt (t.val % 16) (Nat.mod_lt _ (by decide)) y := by
  funext a
  refine Fin.ext ?_
  match a with
  | ⟨0, _⟩ =>
    show (cfg0.win 5).index t 0 * 256 + 1 * (y 0).val = 256 * (t.val % 16) + (y 0).val
    rw [Nat.one_mul, index5_0 t, Nat.mul_comm]
  | ⟨1, _⟩ =>
    show (cfg0.win 5).index t 1 * 64 + 1 * (y 1).val = (y 1).val
    rw [Nat.one_mul, index5_1 t, Nat.zero_mul, Nat.zero_add]

/-- Before point `n`, the blocks made at points 16 and later below `n` are in the array. -/
theorem arr5_upto (c : Dev nD) : ∀ (n : ℕ), n ≤ 32 → ∀ G, (rdat m c).ArrAt 5 n G →
    ∀ t : Fin cfg0.N, 16 ≤ t.val → t.val < n → ∀ y : S256x64.Idx, G (((cfg0.win 5).blk t).view.emb y) = O1 m c t y
  | 0, _, _, _, _, _, ht, _ => absurd ht (Nat.not_lt_zero _)
  | n + 1, hn, G, hG, t, ht, htn, y => by
    have hN : n < cfg0.N := by rw [N32]; exact hn
    have hs := (rdat m c).ArrAt_succ 5 ⟨n, hN⟩
    rw [if_pos (flush0_5 _)] at hs
    have hG' := (congrFun hs G).mp hG
    obtain ⟨G₀, X, h0, hX, rfl⟩ := hG'
    have hR : Rl m c 5 _ X := (dats m 0 c).toRRel_leaves (w := 5) (by decide) hX
    by_cases e : t.val = n
    · have et : t = ⟨n, hN⟩ := Fin.ext e
      have hX' : X = O1 m c t := by rw [et]; exact hR (by dsimp only; omega)
      rw [et] at hX' ⊢
      refine (View.write_emb_of_mem _ _ (Finset.mem_univ y)).trans ?_
      rw [← hX']
      rfl
    · have hi : (cfg0.win 5).index t ≠ (cfg0.win 5).index ⟨n, hN⟩ := fun h => by
        have h0 := congrFun h 0
        rw [index5_0 t, index5_0 _] at h0
        dsimp only at h0
        omega
      have hd : Disjoint ((cfg0.win 5).blk t).view.set ((cfg0.win 5).blk ⟨n, hN⟩).view.set :=
        (cfg0.win 5).disjoint_blk hi rfl
      have hm : ((cfg0.win 5).blk t).view.emb y ∈ ((cfg0.win 5).blk t).view.set := View.emb_mem_set _ y
      have hnm : ((cfg0.win 5).blk t).view.emb y ∉ ((cfg0.win 5).blk ⟨n, hN⟩).view.setOn Finset.univ := by
        rw [View.setOn_univ]; exact fun h => Finset.disjoint_left.mp hd hm h
      refine (View.write_of_not_mem _ _ _ hnm).trans ?_
      exact arr5_upto c n (by omega) G₀ h0 t ht (by omega) y

/-- The second output's array. -/
theorem arr5 (c : Dev nD) (G : S4096x64.Idx → F .f32) (hG : (rdat m c).ArrAt 5 cfg0.N G) : G = OUT1 m c := by
  funext y
  have hb := blk_lt y
  have hv : (pt (16 + (y 0).val / 256)).val = 16 + (y 0).val / 256 := Nat.mod_eq_of_lt (by omega)
  have h := arr5_upto m c 32 le_rfl G hG (pt (16 + (y 0).val / 256)) (by omega) (by omega) (locOf y)
  rw [emb5] at h
  have e : rowAt ((pt (16 + (y 0).val / 256)).val % 16) (Nat.mod_lt _ (by decide)) (locOf y) = y := by
    have e2 : (pt (16 + (y 0).val / 256)).val % 16 = (y 0).val / 256 := by omega
    have : ∀ (k : ℕ) (hk : k < 16), k = (y 0).val / 256 → rowAt k hk (locOf y) = y := by
      rintro k hk rfl; exact rowAt_locOf y
    exact this _ _ e2
  rw [e] at h
  exact h

/-- The sums' array. -/
theorem arr6 (c : Dev nD) (G : S2x64.Idx → F .f32) (hG : (rdat m c).ArrAt 6 cfg0.N G) : G = ROWS m c := by
  have hw : (cfg0.win 6).WholeAt (pt 31) := by decide +kernel
  obtain ⟨X, hX, hE⟩ := hG.emb_eq_of_wholeAt hw
  have hR : Rl m c 6 _ X := (dats m 0 c).toRRel_leaves (w := 6) (by decide) hX
  have hS : Sums X (k0_pay5 (OUT0 m c)) (Fsum m c 15) := hR (by decide)
  funext j
  refine (hE j).trans ?_
  show X j = ROWS m c j
  unfold ROWS
  by_cases h : (j 0).val = 0
  · rw [if_pos h, ← hS.1]
    show X j = X (rF0.emb (rowIdx (j 1)))
    refine congrArg X (funext fun a : Fin 2 => Fin.ext ?_)
    match a with
    | ⟨0, _⟩ => exact h
    | ⟨1, _⟩ => show (j 1).val = 0 + 1 * (j 1).val; omega
  · rw [if_neg h, ← hS.2]
    have h2 : (j 0).val < 2 := (j 0).isLt
    show X j = X (rF1.emb (rowIdx (j 1)))
    refine congrArg X (funext fun a : Fin 2 => Fin.ext ?_)
    match a with
    | ⟨0, _⟩ => show (j 0).val = 1 + 1 * 0; omega
    | ⟨1, _⟩ => show (j 1).val = 0 + 1 * (j 1).val; omega

/-- An argument's array holds what it held. -/
theorem arrIn (c : Dev nD) (w : Fin cfg0.W) (hw : (cfg0.win w).isOut = false) (G) (hG : (rdat m c).ArrAt w cfg0.N G) :
    G = V m c (Pipeline.arrRef spec0 w) := by
  rw [(rdat m c).ArrAt_in w hw] at hG
  exact hG

/-- The host line reshapes the two rows of sums. -/
theorem line_val (c : Dev nD) (A : (w : Fin cfg0.W) → Buf (Elt F) ((cfg0.win w).arr.view.loc (c.tc : Thread nD τ)))
    (hA : ∀ w, (rdat m c).ArrAt w cfg0.N (A w)) :
    StableHlo.after (List.flatten [hostOps1]) (Pipeline.withArrays spec0 c (V0 m c) A) (Proc.devRef .tc main_v1)
      = shapeCast S1x128 (ROWS m c) shapeCasts_S2x64_S1x128 := by
  have h := Pipeline.withArrays_arr (τ := τ) spec0 launch0.win.arr_inj c (V0 m c) A 6
  rw [arr6 m c _ (hA 6)] at h
  rw [show List.flatten [hostOps1 (F := F)] = [StableHlo.reshape main_v0_1 main_v1 (rfl : (.f32 : EltTy) = .f32) shapeCasts_S2x64_S1x128] from rfl,
    StableHlo.after_cons, StableHlo.after_nil]
  refine (StableHlo.reshape_result main_v0_1 main_v1 _ _ _ _ _).trans ?_
  funext i
  exact congrFun (congrArg (fun v : FVec F S2x64 .f32 => shapeCast S1x128 v shapeCasts_S2x64_S1x128) h) i

/-- What a run leaves: the second output, the reshaped sums, the arguments as they were, every semaphore counter zero. -/
theorem run : θ_run defs (onTc (τ := τ) (main (F := F))) ⟨m, fun _ => 0, ρ⟩ (fun r => (∀ c : Dev nD,
      r.2.mem ((c.tc : Thread nD τ).loc main_v0_0) = OUT1 m c
      ∧ r.2.mem ((c.tc : Thread nD τ).loc main_v1) = shapeCast S1x128 (ROWS m c) shapeCasts_S2x64_S1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => by
    obtain ⟨hW, A, hA, hb⟩ := h.1 c
    refine ⟨arr5 m c _ (hW 5), ?_, ?_, ?_, ?_, ?_, ?_⟩
    · exact (hb main_v1 (by decide)).trans (line_val m c A hA)
    · exact (arrIn m c 2 rfl _ (hW 2)).trans (V_main_arg0 m c)
    · exact (arrIn m c 3 rfl _ (hW 3)).trans (V_main_arg1 m c)
    · exact (arrIn m c 0 rfl _ (hW 0)).trans (V_main_arg2 m c)
    · exact (arrIn m c 4 rfl _ (hW 4)).trans (V_main_arg3 m c)
    · exact (arrIn m c 1 rfl _ (hW 1)).trans (V_main_arg4 m c), h.2⟩) (launched m ρ)

end Cert.KernelIdeal.Hand

end
-- ==== Proof.Math.Layers.lean ====
module

public import Mathlib.Data.EReal.Operations
public import Mathlib.Algebra.BigOperators.Ring.Finset
public import Mathlib.Algebra.BigOperators.Fin

@[expose] public section

noncomputable section

/-! The layers as functions on extended reals, and the one law that needs finite numbers: a matrix product of three
factors may be grouped either way. -/

namespace Cert.Layers

variable {N K J L : Type} [Fintype K] [Fintype J]

/-- Relation `r`'s matrix: the two basis matrices combined with row `r` of the coefficients. -/
def mix (b : Fin 2 → Fin 2 → EReal) (w : Fin 2 → K → L → EReal) (r : Fin 2) (k : K) (l : L) : EReal :=
  b r 0 * w 0 k l + b r 1 * w 1 k l

/-- The matrix product. -/
def prod (x : N → K → EReal) (y : K → L → EReal) (n : N) (l : L) : EReal := ∑ k, x n k * y k l

/-- The sum over the two relations of the relation's matrix times its features. -/
def conv (a : Fin 2 → N → K → EReal) (g : Fin 2 → K → L → EReal) (n : N) (l : L) : EReal :=
  prod (a 0) (g 0) n l + prod (a 1) (g 1) n l

/-- The greater of an entry and zero. -/
def relu (h : N → L → EReal) (n : N) (l : L) : EReal := max (h n l) 0

/-- The extended real is a real number. -/
def Fin' (x : EReal) : Prop := ∃ r : ℝ, x = (r : EReal)

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.relu {x : EReal} (hx : Fin' x) : Fin' (max x 0) := by
  rcases max_choice x 0 with h | h <;> rw [h]
  · exact hx
  · exact ⟨0, EReal.coe_zero.symm⟩

/-- The sum of reals, read as extended reals, is the extended reals' sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem Fin'.sum {ι : Type} (s : Finset ι) {f : ι → EReal} (hf : ∀ i, Fin' (f i)) : Fin' (∑ i ∈ s, f i) := by
  choose g hg using hf
  exact ⟨∑ i ∈ s, g i, by rw [coe_sum]; exact Finset.sum_congr rfl fun i _ => hg i⟩

/-- Real coefficients and real bases combine to real matrices. -/
theorem mix_fin {b : Fin 2 → Fin 2 → EReal} {w : Fin 2 → K → L → EReal} (hb : ∀ r s, Fin' (b r s))
    (hw : ∀ s k l, Fin' (w s k l)) (r : Fin 2) (k : K) (l : L) : Fin' (mix b w r k l) :=
  ((hb r 0).mul (hw 0 k l)).add ((hb r 1).mul (hw 1 k l))

/-- A product of real matrices is real. -/
theorem prod_fin {x : N → K → EReal} {y : K → L → EReal} (hx : ∀ n k, Fin' (x n k)) (hy : ∀ k l, Fin' (y k l))
    (n : N) (l : L) : Fin' (prod x y n l) :=
  Fin'.sum _ fun k => (hx n k).mul (hy k l)

/-- A layer of real matrices is real. -/
theorem conv_fin {a : Fin 2 → N → K → EReal} {g : Fin 2 → K → L → EReal} (ha : ∀ r n k, Fin' (a r n k))
    (hg : ∀ r k l, Fin' (g r k l)) (n : N) (l : L) : Fin' (conv a g n l) :=
  (prod_fin (ha 0) (hg 0) n l).add (prod_fin (ha 1) (hg 1) n l)

/-- The product of three real matrices, grouped either way. -/
theorem prod_assoc {x : N → K → EReal} {y : K → J → EReal} {z : J → L → EReal} (hx : ∀ n k, Fin' (x n k))
    (hy : ∀ k j, Fin' (y k j)) (hz : ∀ j l, Fin' (z j l)) (n : N) (l : L) :
    prod x (prod y z) n l = prod (prod x y) z n l := by
  choose X hX using hx
  choose Y hY using hy
  choose Z hZ using hz
  have left : prod x (prod y z) n l = ((∑ k, X n k * ∑ j, Y k j * Z j l : ℝ) : EReal) := by
    rw [coe_sum]
    refine Finset.sum_congr rfl fun k _ => ?_
    rw [EReal.coe_mul, coe_sum, hX]
    refine congrArg (fun s : EReal => (X n k : EReal) * s) (Finset.sum_congr rfl fun j _ => ?_)
    rw [EReal.coe_mul, hY, hZ]
  have right : prod (prod x y) z n l = ((∑ j, (∑ k, X n k * Y k j) * Z j l : ℝ) : EReal) := by
    rw [coe_sum]
    refine Finset.sum_congr rfl fun j _ => ?_
    rw [EReal.coe_mul, coe_sum, hZ]
    refine congrArg (fun s : EReal => s * (Z j l : EReal)) (Finset.sum_congr rfl fun k _ => ?_)
    rw [EReal.coe_mul, hX, hY]
  rw [left, right]
  refine congrArg _ ?_
  simp only [Finset.mul_sum, Finset.sum_mul]
  rw [Finset.sum_comm]
  exact Finset.sum_congr rfl fun j _ => Finset.sum_congr rfl fun k _ => (mul_assoc _ _ _).symm

/-- A layer whose features are a product: the products with the relations' matrices may be taken first. -/
theorem conv_prod {a : Fin 2 → N → K → EReal} {h : K → J → EReal} {w : Fin 2 → J → L → EReal}
    (ha : ∀ r n k, Fin' (a r n k)) (hh : ∀ k j, Fin' (h k j)) (hw : ∀ r j l, Fin' (w r j l)) (n : N) (l : L) :
    conv a (fun r => prod h (w r)) n l = prod (prod (a 0) h) (w 0) n l + prod (prod (a 1) h) (w 1) n l := by
  unfold conv
  rw [prod_assoc (ha 0) hh (hw 0), prod_assoc (ha 1) hh (hw 1)]

end Cert.Layers

end
-- ==== Proof.Math.Blocks.lean ====
module

public import proofs.«01_k».proof.Proof.Math.Layers

@[expose] public section

noncomputable section

/-! A sum over 4096 rows, taken 256 rows at a time. -/

namespace Cert.Layers

/-- The sum of block `b` of 256 rows, or of nothing past the sixteenth. -/
def blockSum (f : ℕ → EReal) (b : ℕ) : EReal := ∑ x : Fin 256, f (256 * b + x.val)

/-- Sums over a running number of blocks are sums over that many times 256 rows. -/
theorem sum_blocks (f : ℕ → EReal) : ∀ n : ℕ, ∑ b ∈ Finset.range n, blockSum f b = ∑ i ∈ Finset.range (256 * n), f i
  | 0 => by simp
  | n + 1 => by
    rw [Finset.sum_range_succ, sum_blocks f n, Nat.mul_succ, Finset.sum_range_add]
    refine congrArg (fun s : EReal => (∑ i ∈ Finset.range (256 * n), f i) + s) ?_
    exact Fin.sum_univ_eq_sum_range (fun x => f (256 * n + x)) 256

/-- Sixteen blocks of 256 rows are the 4096 rows. -/
theorem sum_sixteen (f : ℕ → EReal) : ∑ b ∈ Finset.range 16, blockSum f b = ∑ n : Fin 4096, f n.val := by
  rw [sum_blocks, Fin.sum_univ_eq_sum_range]

end Cert.Layers

end
-- ==== Proof.KernelIdeal.Value.lean ====
module

public import proofs.«01_k».proof.Proof.KernelIdeal.Final
public import proofs.«01_k».proof.Proof.Math.Layers
public import proofs.«01_k».proof.Proof.Math.Blocks
public import Idealize.ShloMosaic.Lib.Pointwise

@[expose] public section

noncomputable section

/-! The kernel's two results over the extended reals, entry by entry. -/

namespace Cert.KernelIdeal.Hand

open Cert.KernelIdeal Cert.KernelIdeal.Gen
open Idealize.ShloMosaic Idealize.ShloMosaic.TcCoe Idealize.SL.Sem
open Cert.Layers

/-! ## What the body computes, at an entry -/

theorem featA0_apply (d2 : S2x2.Idx → EReal) (d5 : S2x4096x64.Idx → EReal) (k : Fin 4096) (l : Fin 64) :
    featA0 (F := Ideal) d2 d5 (ix3 0 k l)
      = mix (fun r s => d2 (ix2 r s)) (fun s (k : Fin 4096) (l : Fin 64) => d5 (ix3 s k l)) 0 k l := by
  unfold mix
  pointwise [featA0, k0_pay1, sc]

theorem featA1_apply (d2 : S2x2.Idx → EReal) (d5 : S2x4096x64.Idx → EReal) (k : Fin 4096) (l : Fin 64) :
    featA1 (F := Ideal) d2 d5 (ix3 0 k l)
      = mix (fun r s => d2 (ix2 r s)) (fun s (k : Fin 4096) (l : Fin 64) => d5 (ix3 s k l)) 1 k l := by
  unfold mix
  pointwise [featA1, k0_pay2, sc]

theorem featB0_apply (d3 : S2x2.Idx → EReal) (d6 : S2x64x64.Idx → EReal) (s0 : S4096x64.Idx → EReal) (k : Fin 4096) (l : Fin 64) :
    featB0 (F := Ideal) d3 d6 s0 (ix3 0 k l)
      = prod (relu fun (k : Fin 4096) (j : Fin 64) => s0 (ix2 k j))
          (mix (fun r s => d3 (ix2 r s)) (fun s (j : Fin 64) (l : Fin 64) => d6 (ix3 s j l)) 0) k l := by
  unfold prod relu mix
  pointwise [featB0, k0_pay10, k0_pay9, sc]

theorem featB1_apply (d3 : S2x2.Idx → EReal) (d6 : S2x64x64.Idx → EReal) (s0 : S4096x64.Idx → EReal) (k : Fin 4096) (l : Fin 64) :
    featB1 (F := Ideal) d3 d6 s0 (ix3 0 k l)
      = prod (relu fun (k : Fin 4096) (j : Fin 64) => s0 (ix2 k j))
          (mix (fun r s => d3 (ix2 r s)) (fun s (j : Fin 64) (l : Fin 64) => d6 (ix3 s j l)) 1) k l := by
  unfold prod relu mix
  pointwise [featB1, k0_pay4, k0_pay11, k0_pay9, sc]

/-- A block of the first output: the block of adjacency rows against the two relations' features. -/
theorem block0_apply (d4 : S2x256x4096.Idx → EReal) (g0 g1 : FVec Ideal S1x4096x64 .f32) (x : Fin 256) (l : Fin 64) :
    k0_pay3 (F := Ideal) (View.ld d4 rA0) g0 (View.ld d4 rA1) g1 (ix2 x l)
      = ∑ k : Fin 4096, d4 (ix3 0 x k) * g0 (ix3 0 k l) + ∑ k : Fin 4096, d4 (ix3 1 x k) * g1 (ix3 0 k l) := by
  pointwise [k0_pay3]

/-- A block of the second output, likewise. -/
theorem block1_apply (d4 : S2x256x4096.Idx → EReal) (g0 g1 : FVec Ideal S1x4096x64 .f32) (x : Fin 256) (l : Fin 64) :
    k0_pay7 (F := Ideal) (View.ld d4 rA0) g0 (View.ld d4 rA1) g1 (ix2 x l)
      = ∑ k : Fin 4096, d4 (ix3 0 x k) * g0 (ix3 0 k l) + ∑ k : Fin 4096, d4 (ix3 1 x k) * g1 (ix3 0 k l) := by
  pointwise [k0_pay7]

/-- The first row of sums. -/
theorem sum0_apply (s0 : S4096x64.Idx → EReal) (l : Fin 64) :
    k0_pay5 (F := Ideal) s0 (ix2 0 l) = ∑ n : Fin 4096, s0 (ix2 n l) := by
  pointwise [k0_pay5]

/-- The second row of sums grows by a block's column sums. -/
theorem sum1_apply (a0 a1 : FVec Ideal S1x256x4096 .f32) (g0 g1 : FVec Ideal S1x4096x64 .f32) (f : FVec Ideal S1x64 .f32) (l : Fin 64) :
    k0_pay8 (F := Ideal) a0 g0 a1 g1 f (ix2 0 l) = f (ix2 0 l) + ∑ x : Fin 256, k0_pay7 a0 g0 a1 g1 (ix2 x l) := by
  pointwise [k0_pay8]

/-- The second row of sums starts at zero. -/
theorem zero_apply (l : Fin 64) : k0_pay6 (F := Ideal) (ix2 0 l) = 0 := by
  pointwise [k0_pay6]

/-! ## The blocks the windows hold -/

variable (m : (ℓ : Loc nD τ sig) → Buf (Elt Ideal) ℓ)

theorem index2_0 : ∀ t : Fin cfg0.N, (cfg0.win 2).index t 0 = 0 := by decide +kernel
theorem index2_1 : ∀ t : Fin cfg0.N, (cfg0.win 2).index t 1 = t.val % 16 := by decide +kernel
theorem index2_2 : ∀ t : Fin cfg0.N, (cfg0.win 2).index t 2 = 0 := by decide +kernel

/-- At point `t` the adjacency window holds rows `256 * (t % 16)` and on of both relations. -/
theorem ablk_apply (c : Dev nD) (t : Fin cfg0.N) (r : Fin 2) (x : Fin 256) (k n : Fin 4096) (hn : n.val = 256 * (t.val % 16) + x.val) :
    ablk m c t (ix3 r x k) = m ((c.tc : Thread nD τ).loc main_arg0) (ix3 r n k) := by
  show m ((c.tc : Thread nD τ).loc main_arg0) (((cfg0.win 2).blk t).view.emb (ix3 r x k)) = _
  refine congrArg (m ((c.tc : Thread nD τ).loc main_arg0)) (funext fun a : Fin 3 => Fin.ext ?_)
  match a with
  | ⟨0, _⟩ =>
    show (cfg0.win 2).index t 0 * 2 + 1 * r.val = r.val
    rw [index2_0 t]; omega
  | ⟨1, _⟩ =>
    show (cfg0.win 2).index t 1 * 256 + 1 * x.val = n.val
    rw [index2_1 t]; omega
  | ⟨2, _⟩ =>
    show (cfg0.win 2).index t 2 * 4096 + 1 * k.val = k.val
    rw [index2_2 t]; omega

theorem index0 : ∀ (t : Fin cfg0.N) (a : Fin 2), (cfg0.win 0).index t a = 0 := by decide +kernel
theorem index1 : ∀ (t : Fin cfg0.N) (a : Fin 2), (cfg0.win 1).index t a = 0 := by decide +kernel
theorem index3 : ∀ (t : Fin cfg0.N) (a : Fin 3), (cfg0.win 3).index t a = 0 := by decide +kernel
theorem index4 : ∀ (t : Fin cfg0.N) (a : Fin 3), (cfg0.win 4).index t a = 0 := by decide +kernel

/-- The first layer's coefficients are held whole. -/
theorem blk0_eq (c : Dev nD) (t : Fin cfg0.N) : (iblk m c 0 t : S2x2.Idx → EReal) = m ((c.tc : Thread nD τ).loc main_arg2) := by
  funext y
  show m ((c.tc : Thread nD τ).loc main_arg2) (((cfg0.win 0).blk t).view.emb y) = _
  refine congrArg (m ((c.tc : Thread nD τ).loc main_arg2)) (funext fun a : Fin 2 => Fin.ext ?_)
  match a with
  | ⟨0, _⟩ => show (cfg0.win 0).index t 0 * 2 + 1 * (y 0).val = (y 0).val; rw [index0 t 0]; omega
  | ⟨1, _⟩ => show (cfg0.win 0).index t 1 * 2 + 1 * (y 1).val = (y 1).val; rw [index0 t 1]; omega

/-- The second layer's coefficients are held whole. -/
theorem blk1_eq (c : Dev nD) (t : Fin cfg0.N) : (iblk m c 1 t : S2x2.Idx → EReal) = m ((c.tc : Thread nD τ).loc main_arg4) := by
  funext y
  show m ((c.tc : Thread nD τ).loc main_arg4) (((cfg0.win 1).blk t).view.emb y) = _
  refine congrArg (m ((c.tc : Thread nD τ).loc main_arg4)) (funext fun a : Fin 2 => Fin.ext ?_)
  match a with
  | ⟨0, _⟩ => show (cfg0.win 1).index t 0 * 2 + 1 * (y 0).val = (y 0).val; rw [index1 t 0]; omega
  | ⟨1, _⟩ => show (cfg0.win 1).index t 1 * 2 + 1 * (y 1).val = (y 1).val; rw [index1 t 1]; omega

/-- The first layer's basis arrays are held whole. -/
theorem blk3_eq (c : Dev nD) (t : Fin cfg0.N) : (iblk m c 3 t : S2x4096x64.Idx → EReal) = m ((c.tc : Thread nD τ).loc main_arg1) := by
  funext y
  show m ((c.tc : Thread nD τ).loc main_arg1) (((cfg0.win 3).blk t).view.emb y) = _
  refine congrArg (m ((c.tc : Thread nD τ).loc main_arg1)) (funext fun a : Fin 3 => Fin.ext ?_)
  match a with
  | ⟨0, _⟩ => show (cfg0.win 3).index t 0 * 2 + 1 * (y 0).val = (y 0).val; rw [index3 t 0]; omega
  | ⟨1, _⟩ => show (cfg0.win 3).index t 1 * 4096 + 1 * (y 1).val = (y 1).val; rw [index3 t 1]; omega
  | ⟨2, _⟩ => show (cfg0.win 3).index t 2 * 64 + 1 * (y 2).val = (y 2).val; rw [index3 t 2]; omega

/-- The second layer's basis matrices are held whole. -/
theorem blk4_eq (c : Dev nD) (t : Fin cfg0.N) : (iblk m c 4 t : S2x64x64.Idx → EReal) = m ((c.tc : Thread nD τ).loc main_arg3) := by
  funext y
  show m ((c.tc : Thread nD τ).loc main_arg3) (((cfg0.win 4).blk t).view.emb y) = _
  refine congrArg (m ((c.tc : Thread nD τ).loc main_arg3)) (funext fun a : Fin 3 => Fin.ext ?_)
  match a with
  | ⟨0, _⟩ => show (cfg0.win 4).index t 0 * 2 + 1 * (y 0).val = (y 0).val; rw [index4 t 0]; omega
  | ⟨1, _⟩ => show (cfg0.win 4).index t 1 * 64 + 1 * (y 1).val = (y 1).val; rw [index4 t 1]; omega
  | ⟨2, _⟩ => show (cfg0.win 4).index t 2 * 64 + 1 * (y 2).val = (y 2).val; rw [index4 t 2]; omega

/-! ## The inputs as matrices -/

/-- The adjacency matrices. -/
def Adj (c : Dev nD) (r : Fin 2) (n k : Fin 4096) : EReal := m ((c.tc : Thread nD τ).loc main_arg0) (ix3 r n k)
/-- The first layer's relation matrices. -/
def Mat0 (c : Dev nD) : Fin 2 → Fin 4096 → Fin 64 → EReal :=
  mix (fun r s => m ((c.tc : Thread nD τ).loc main_arg2) (ix2 r s)) fun s k l => m ((c.tc : Thread nD τ).loc main_arg1) (ix3 s k l)
/-- The second layer's relation matrices. -/
def Mat1 (c : Dev nD) : Fin 2 → Fin 64 → Fin 64 → EReal :=
  mix (fun r s => m ((c.tc : Thread nD τ).loc main_arg4) (ix2 r s)) fun s j l => m ((c.tc : Thread nD τ).loc main_arg3) (ix3 s j l)
/-- The rectified first output. -/
def Hid (c : Dev nD) : Fin 4096 → Fin 64 → EReal := relu (conv (Adj m c) (Mat0 m c))
/-- The second layer's features, one array per relation. -/
def Feat (c : Dev nD) (r : Fin 2) : Fin 4096 → Fin 64 → EReal := prod (Hid m c) (Mat1 m c r)

/-- The first output at an entry. -/
theorem OUT0_apply (c : Dev nD) (n : Fin 4096) (l : Fin 64) : OUT0 m c (ix2 n l) = conv (Adj m c) (Mat0 m c) n l := by
  have hl : locOf (ix2 n l) = ix2 ⟨n.val % 256, Nat.mod_lt _ (by decide)⟩ l := by
    funext a
    match a with
    | ⟨0, _⟩ => rfl
    | ⟨1, _⟩ => rfl
  have hp : (pt (n.val / 256)).val = n.val / 256 := Nat.mod_eq_of_lt (by omega)
  show O0 m c (n.val / 256) (locOf (ix2 n l)) = _
  rw [hl]
  unfold O0
  rw [block0_apply]
  unfold conv prod
  refine congrArg₂ (fun x y : EReal => x + y) (Finset.sum_congr rfl fun k _ => ?_) (Finset.sum_congr rfl fun k _ => ?_)
  · rw [ablk_apply m c _ 0 _ k n (by rw [hp]; dsimp only; omega)]
    unfold GA0
    rw [featA0_apply, blk0_eq, blk3_eq]
    rfl
  · rw [ablk_apply m c _ 1 _ k n (by rw [hp]; dsimp only; omega)]
    unfold GA1
    rw [featA1_apply, blk0_eq, blk3_eq]
    rfl

/-- The second layer's features at an entry: relation 0. -/
theorem GB0_apply (c : Dev nD) (k : Fin 4096) (l : Fin 64) : GB0 m c (ix3 0 k l) = Feat m c 0 k l := by
  unfold GB0
  rw [featB0_apply, blk1_eq, blk4_eq]
  unfold Feat Hid
  rw [show (fun (k : Fin 4096) (j : Fin 64) => OUT0 m c (ix2 k j)) = conv (Adj m c) (Mat0 m c) from
    funext fun k => funext fun j => OUT0_apply m c k j]
  rfl

/-- The second layer's features at an entry: relation 1. -/
theorem GB1_apply (c : Dev nD) (k : Fin 4096) (l : Fin 64) : GB1 m c (ix3 0 k l) = Feat m c 1 k l := by
  unfold GB1
  rw [featB1_apply, blk1_eq, blk4_eq]
  unfold Feat Hid
  rw [show (fun (k : Fin 4096) (j : Fin 64) => OUT0 m c (ix2 k j)) = conv (Adj m c) (Mat0 m c) from
    funext fun k => funext fun j => OUT0_apply m c k j]
  rfl

/-- A block of the second output at an entry: row `n` of the layer. -/
theorem O1_apply (c : Dev nD) (t : Fin cfg0.N) (x : Fin 256) (l : Fin 64) (n : Fin 4096) (hn : n.val = 256 * (t.val % 16) + x.val) :
    O1 m c t (ix2 x l) = conv (Adj m c) (Feat m c) n l := by
  unfold O1
  rw [block1_apply]
  unfold conv prod
  refine congrArg₂ (fun x y : EReal => x + y) (Finset.sum_congr rfl fun k _ => ?_) (Finset.sum_congr rfl fun k _ => ?_)
  · rw [ablk_apply m c _ 0 _ k n hn, GB0_apply]
    rfl
  · rw [ablk_apply m c _ 1 _ k n hn, GB1_apply]
    rfl

/-- The second output at an entry. -/
theorem OUT1_apply (c : Dev nD) (n : Fin 4096) (l : Fin 64) : OUT1 m c (ix2 n l) = conv (Adj m c) (Feat m c) n l := by
  have hl : locOf (ix2 n l) = ix2 ⟨n.val % 256, Nat.mod_lt _ (by decide)⟩ l := by
    funext a
    match a with
    | ⟨0, _⟩ => rfl
    | ⟨1, _⟩ => rfl
  have hp : (pt (16 + n.val / 256)).val = 16 + n.val / 256 := Nat.mod_eq_of_lt (by omega)
  show O1 m c (pt (16 + n.val / 256)) (locOf (ix2 n l)) = _
  rw [hl]
  exact O1_apply m c _ _ l n (by rw [hp]; dsimp only; omega)

/-! ## The sums -/

/-- Column `l` of the second output as a function of a row number; zero past the last row. -/
def col (c : Dev nD) (l : Fin 64) (n : ℕ) : EReal := if h : n < 4096 then conv (Adj m c) (Feat m c) ⟨n, h⟩ l else 0

/-- The column sum of the block made at point `16 + b`. -/
theorem block_sum (c : Dev nD) (l : Fin 64) (b : ℕ) (hb : b < 16) :
    ∑ x : Fin 256, O1 m c (pt (16 + b)) (ix2 x l) = blockSum (col m c l) b := by
  have hp : (pt (16 + b)).val = 16 + b := Nat.mod_eq_of_lt (by omega)
  unfold blockSum
  refine Finset.sum_congr rfl fun x _ => ?_
  have hx : 256 * b + x.val < 4096 := by omega
  unfold col
  rw [dif_pos hx]
  exact O1_apply m c _ x l ⟨256 * b + x.val, hx⟩ (by rw [hp]; dsimp only; omega)

/-- After the points 16 to `16 + n` the second row of sums holds the first `n + 1` blocks' column sums. -/
theorem Fsum_apply (c : Dev nD) (l : Fin 64) : ∀ n : ℕ, n < 16 → Fsum m c n (ix2 0 l) = ∑ b ∈ Finset.range (n + 1), blockSum (col m c l) b
  | 0, _ => by
    show k0_pay8 _ _ _ _ _ (ix2 0 l) = _
    rw [sum1_apply, zero_apply, zero_add, Finset.sum_range_one]
    exact block_sum m c l 0 (by decide)
  | n + 1, h => by
    show k0_pay8 _ _ _ _ _ (ix2 0 l) = _
    rw [sum1_apply, Fsum_apply c l n (by omega), Finset.sum_range_succ _ (n + 1)]
    refine congrArg (fun s : EReal => (∑ b ∈ Finset.range (n + 1), blockSum (col m c l) b) + s) ?_
    rw [← block_sum m c l (n + 1) h, show 16 + (n + 1) = 17 + n by omega]
    rfl

/-- The second row of sums at the end: the whole columns. -/
theorem Fsum_end (c : Dev nD) (l : Fin 64) : Fsum m c 15 (ix2 0 l) = ∑ n : Fin 4096, conv (Adj m c) (Feat m c) n l := by
  rw [Fsum_apply m c l 15 (by decide), sum_sixteen]
  refine Finset.sum_congr rfl fun n _ => ?_
  unfold col
  rw [dif_pos n.isLt]

theorem rowIdx_eq (l : Fin 64) : rowIdx l = ix2 0 l := by
  funext a
  match a with
  | ⟨0, _⟩ => rfl
  | ⟨1, _⟩ => rfl

/-- The sums as one row of 128: first the first output's, then the second's. -/
theorem ROWS_apply (c : Dev nD) (l : Fin 128) :
    shapeCast S1x128 (ROWS m c) shapeCasts_S2x64_S1x128 (ix2 0 l)
      = if hl : l.val < 64 then ∑ n : Fin 4096, conv (Adj m c) (Mat0 m c) n ⟨l.val, hl⟩
        else ∑ n : Fin 4096, conv (Adj m c) (Feat m c) n ⟨l.val - 64, by omega⟩ := by
  have e : shapeCast S1x128 (ROWS m c) shapeCasts_S2x64_S1x128 (ix2 0 l)
      = ROWS m c (ix2 ⟨l.val / 64, by omega⟩ ⟨l.val % 64, Nat.mod_lt _ (by decide)⟩) := by
    pointwise
  rw [e]
  by_cases hl : l.val < 64
  · have h0 : l.val / 64 = 0 := by omega
    rw [dif_pos hl]
    refine (if_pos h0).trans ?_
    show k0_pay5 (OUT0 m c) (rowIdx ⟨l.val % 64, _⟩) = _
    rw [rowIdx_eq, sum0_apply]
    refine Finset.sum_congr rfl fun n _ => ?_
    rw [OUT0_apply]
    exact congrArg _ (Fin.ext (by show l.val % 64 = l.val; omega))
  · have h0 : ¬ l.val / 64 = 0 := by omega
    rw [dif_neg hl]
    refine (if_neg h0).trans ?_
    show Fsum m c 15 (rowIdx ⟨l.val % 64, _⟩) = _
    rw [rowIdx_eq, Fsum_end]
    refine Finset.sum_congr rfl fun n _ => ?_
    exact congrArg _ (Fin.ext (by show l.val % 64 = l.val - 64; omega))

end Cert.KernelIdeal.Hand

end
-- ==== Proof.ReferenceIdeal.Value.lean ====
module

public import proofs.«01_k».proof.Proof.Gen.ReferenceIdeal.Run
public import proofs.«01_k».proof.Proof.Math.Layers
public import Idealize.ShloMosaic.Lib.Pointwise

@[expose] public section

noncomputable section

/-! The reference's two results, entry by entry. -/

namespace Cert.ReferenceIdeal.Hand

open Cert.ReferenceIdeal Cert.ReferenceIdeal.Gen Idealize.ShloMosaic Idealize.ShloMosaic.TcCoe Idealize.SL.Sem Cert.Layers

/-- Relation 0's adjacency matrix. -/
def adj0 (A : FVec Ideal S2x4096x4096 .f32) : FVec Ideal S4096x4096 .f32 :=
  shapeCast _ (extractStridedSlice S1x4096x4096 ![0, 0, 0] A slices_S2x4096x4096_S1x4096x4096_0_0_0) shapeCasts_S1x4096x4096_S4096x4096

/-- Relation 1's adjacency matrix. -/
def adj1 (A : FVec Ideal S2x4096x4096 .f32) : FVec Ideal S4096x4096 .f32 :=
  shapeCast _ (extractStridedSlice S1x4096x4096 ![1, 0, 0] A slices_S2x4096x4096_S1x4096x4096_1_0_0) shapeCasts_S1x4096x4096_S4096x4096

/-- The first layer: the adjacency matrices side by side, times the two relations' features one above the other. -/
def first (A : FVec Ideal S2x4096x4096 .f32) (W : FVec Ideal S2x4096x64 .f32) (B : FVec Ideal S2x2 .f32) : FVec Ideal S4096x64 .f32 :=
  Host.dotGeneral dot_S4096x8192_S8192x64_S4096x64_1_0_0_1_n_n none
    (concatenate S4096x8192 1 [⟨S4096x4096, adj0 A⟩, ⟨S4096x4096, adj1 A⟩] concatenates_S4096x4096_S4096x4096_S4096x8192_d1)
    (shapeCast _ (Host.dotGeneral dot_S2x2_S2x4096x64_S2x4096x64_1_0_0_12_n_n none B W) shapeCasts_S2x4096x64_S8192x64)

/-- The rectified first layer. -/
def rect (h : FVec Ideal S4096x64 .f32) : FVec Ideal S4096x64 .f32 :=
  maximumf h (broadcastInDim S4096x64 ![] bcast_S_S4096x64 (constant S_ .f32 0x00000000#32))

/-- The second layer of features `h`. -/
def second (A : FVec Ideal S2x4096x4096 .f32) (h : FVec Ideal S4096x64 .f32) (W : FVec Ideal S2x64x64 .f32) (B : FVec Ideal S2x2 .f32) :
    FVec Ideal S4096x64 .f32 :=
  Host.dotGeneral dot_S4096x128_S128x64_S4096x64_1_0_0_1_n_n none
    (concatenate S4096x128 1 [⟨S4096x64, Host.dotGeneral dot_S4096x4096_S4096x64_S4096x64_1_0_0_1_n_n none (adj0 A) h⟩,
      ⟨S4096x64, Host.dotGeneral dot_S4096x4096_S4096x64_S4096x64_1_0_0_1_n_n none (adj1 A) h⟩] concatenates_S4096x64_S4096x64_S4096x128_d1)
    (shapeCast _ (Host.dotGeneral dot_S2x2_S2x64x64_S2x64x64_1_0_0_12_n_n none B W) shapeCasts_S2x64x64_S128x64)

/-- The column sums of the two layers side by side. -/
def sums (a b : FVec Ideal S4096x64 .f32) : FVec Ideal S1x128 .f32 :=
  shapeCast _ (Host.reduceAdd (concatenate S4096x128 1 [⟨S4096x64, a⟩, ⟨S4096x64, b⟩] concatenates_S4096x64_S4096x64_S4096x128_d1)
    (constant S_ .f32 0x00000000#32) reducesTo_S4096x128_S128_d0 h_S_) shapeCasts_S128_S1x128

/-- The first layer at an entry. -/
theorem first_apply (A : FVec Ideal S2x4096x4096 .f32) (W : FVec Ideal S2x4096x64 .f32) (B : FVec Ideal S2x2 .f32) (n : Fin 4096) (l : Fin 64) :
    first A W B (ix2 n l)
      = conv (fun r n k => A (ix3 r n k)) (mix (fun r s => B (ix2 r s)) fun s (k : Fin 4096) (l : Fin 64) => W (ix3 s k l)) n l := by
  pointwise [first, adj0, adj1]
  unfold conv prod mix
  refine congrArg₂ (fun x y : EReal => x + y) (Finset.sum_congr rfl fun k _ => ?_) (Finset.sum_congr rfl fun k _ => ?_)
  · have e0 : ∀ h, (⟨k.val / 4096, h⟩ : Fin 2) = 0 := fun h => Fin.ext (by show k.val / 4096 = 0; omega)
    have e1 : ∀ h, (⟨k.val % 4096, h⟩ : Fin 4096) = k := fun h => Fin.ext (by show k.val % 4096 = k.val; omega)
    simp only [e0, e1, Fin.sum_univ_two]
  · have e0 : ∀ h, (⟨(4096 + k.val) / 4096, h⟩ : Fin 2) = 1 := fun h => Fin.ext (by show (4096 + k.val) / 4096 = 1; omega)
    have e1 : ∀ h, (⟨(4096 + k.val) % 4096, h⟩ : Fin 4096) = k := fun h => Fin.ext (by show (4096 + k.val) % 4096 = k.val; omega)
    simp only [e0, e1, Fin.sum_univ_two]

/-- The rectified layer at an entry. -/
theorem rect_apply (h : FVec Ideal S4096x64 .f32) (n : Fin 4096) (l : Fin 64) : rect h (ix2 n l) = max (h (ix2 n l)) 0 := by
  pointwise [rect]

/-- The second layer at an entry: the features meet the adjacency matrices first. -/
theorem second_apply (A : FVec Ideal S2x4096x4096 .f32) (h : FVec Ideal S4096x64 .f32) (W : FVec Ideal S2x64x64 .f32) (B : FVec Ideal S2x2 .f32)
    (n : Fin 4096) (l : Fin 64) :
    second A h W B (ix2 n l)
      = prod (prod (fun (n : Fin 4096) (k : Fin 4096) => A (ix3 0 n k)) fun k (j : Fin 64) => h (ix2 k j))
          (mix (fun r s => B (ix2 r s)) (fun s (j : Fin 64) (l : Fin 64) => W (ix3 s j l)) 0) n l
        + prod (prod (fun (n : Fin 4096) (k : Fin 4096) => A (ix3 1 n k)) fun k (j : Fin 64) => h (ix2 k j))
          (mix (fun r s => B (ix2 r s)) (fun s (j : Fin 64) (l : Fin 64) => W (ix3 s j l)) 1) n l := by
  pointwise [second, adj0, adj1]
  unfold prod mix
  refine congrArg₂ (fun x y : EReal => x + y) (Finset.sum_congr rfl fun k _ => ?_) (Finset.sum_congr rfl fun k _ => ?_)
  · have e0 : ∀ h, (⟨k.val / 64, h⟩ : Fin 2) = 0 := fun h => Fin.ext (by show k.val / 64 = 0; omega)
    have e1 : ∀ h, (⟨k.val % 64, h⟩ : Fin 64) = k := fun h => Fin.ext (by show k.val % 64 = k.val; omega)
    simp only [e0, e1, Fin.sum_univ_two]
  · have e0 : ∀ h, (⟨(64 + k.val) / 64, h⟩ : Fin 2) = 1 := fun h => Fin.ext (by show (64 + k.val) / 64 = 1; omega)
    have e1 : ∀ h, (⟨(64 + k.val) % 64, h⟩ : Fin 64) = k := fun h => Fin.ext (by show (64 + k.val) % 64 = k.val; omega)
    simp only [e0, e1, Fin.sum_univ_two]

/-- The sums at an entry: the first 64 are the first layer's, the others the second's. -/
theorem sums_apply (a b : FVec Ideal S4096x64 .f32) (l : Fin 128) :
    sums a b (ix2 0 l) = if hl : l.val < 64 then ∑ n : Fin 4096, a (ix2 n ⟨l.val, hl⟩) else ∑ n : Fin 4096, b (ix2 n ⟨l.val - 64, by omega⟩) := by
  pointwise [sums]
  by_cases hl : l.val < 64
  · simp only [dif_pos hl]
  · simp only [dif_neg hl]

/-- What a run of the reference leaves, with every semaphore counter zero. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = second (m ((c.tc : Thread nD τ).loc main_arg0))
              (rect (first (m ((c.tc : Thread nD τ).loc main_arg0)) (m ((c.tc : Thread nD τ).loc main_arg1)) (m ((c.tc : Thread nD τ).loc main_arg2))))
              (m ((c.tc : Thread nD τ).loc main_arg3)) (m ((c.tc : Thread nD τ).loc main_arg4))
      ∧ r.2.mem ((c.tc : Thread nD τ).loc main_v21)
          = sums (first (m ((c.tc : Thread nD τ).loc main_arg0)) (m ((c.tc : Thread nD τ).loc main_arg1)) (m ((c.tc : Thread nD τ).loc main_arg2)))
              (second (m ((c.tc : Thread nD τ).loc main_arg0))
                (rect (first (m ((c.tc : Thread nD τ).loc main_arg0)) (m ((c.tc : Thread nD τ).loc main_arg1)) (m ((c.tc : Thread nD τ).loc main_arg2))))
                (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceIdeal.Hand

end
-- ==== Proof.Finite.lean ====
module

public import proofs.«01_k».proof.Pre_finite_inputs
public import proofs.«01_k».proof.Proof.Math.Layers
public import Idealize.ShloMosaic.Lib.Pointwise
public import Idealize.ShloMosaic.Lib.ReduceAll

@[expose] public section

noncomputable section

/-! What the precondition says: every entry of every input is a real number. -/

namespace Cert.Finite

open Cert.Pre_finite_inputs Idealize.ShloMosaic Cert.Layers

/-- The shape relations the precondition states hold. -/
theorem facts : Facts where
  bcast_S_S2x4096x4096 := by decide
  reducesTo_S2x4096x4096_S_d0_1_2 := by decide
  h_S_ := by decide
  bcast_S_S2x4096x64 := by decide
  reducesTo_S2x4096x64_S_d0_1_2 := by decide
  bcast_S_S2x2 := by decide
  reducesTo_S2x2_S_d0_1 := by decide
  bcast_S_S2x64x64 := by decide
  reducesTo_S2x64x64_S_d0_1_2 := by decide

/-- The pattern the absolute values are compared with denotes positive infinity. -/
theorem top_bits : Ideal.ofBits .f32 0x7F800000#32 = (⊤ : EReal) := by
  simp [Ideal.ofBits, Ideal.ieee]

/-- An extended real of absolute value below positive infinity is a real number. -/
theorem fin_of_abs {x : EReal} (h : max x (-x) < ⊤) : Fin' x := by
  induction x with
  | bot => simp at h
  | top => simp at h
  | coe r => exact ⟨r, rfl⟩

/-- Two one-bit words whose `and` is 1 are 1. -/
theorem and_one : ∀ {a b : BitVec 1}, a &&& b = 1#1 → a = 1#1 ∧ b = 1#1 := by decide

/-- One input's part of the precondition: if the `and` of the comparisons over all axes is 1, every entry is a real number. -/
theorem all_fin {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : Fin' (x i) := by
  have : Subsingleton S_.Idx := ⟨fun a b => funext fun k => k.elim0⟩
  have hi := Host.reduce_andi_all _ _ _ _ j h i
  refine fin_of_abs ?_
  have hc : Ideal.cmp .olt (max (x i) (-(x i))) (Ideal.ofBits .f32 0x7F800000#32) = 1#1 := hi
  rw [top_bits] at hc
  by_contra hn
  have h0 : Ideal.cmp .olt (max (x i) (-(x i))) ⊤ = 0#1 := by
    simp only [Ideal.cmp, decide_eq_false hn]
    rfl
  rw [h0] at hc
  exact absurd hc (by decide)

/-- Where the precondition holds, every entry of every input is a real number. -/
theorem inputs [Facts] (a0 : FVec Ideal S2x4096x4096 .f32) (a1 : FVec Ideal S2x4096x64 .f32) (a2 : FVec Ideal S2x2 .f32)
    (a3 : FVec Ideal S2x64x64 .f32) (a4 : FVec Ideal S2x2 .f32) (h : fn a0 a1 a2 a3 a4 = fun _ => 1#1) :
    (∀ i, Fin' (a0 i)) ∧ (∀ i, Fin' (a1 i)) ∧ (∀ i, Fin' (a2 i)) ∧ (∀ i, Fin' (a3 i)) ∧ ∀ i, Fin' (a4 i) := by
  have hj := congrFun h ix0
  unfold fn fn_part1 at hj
  obtain ⟨hj, h4⟩ := and_one hj
  obtain ⟨hj, h3⟩ := and_one hj
  obtain ⟨hj, h2⟩ := and_one hj
  obtain ⟨h0, h1⟩ := and_one hj
  exact ⟨all_fin a0 _ _ _ _ h0, all_fin a1 _ _ _ _ h1, all_fin a2 _ _ _ _ h2, all_fin a3 _ _ _ _ h3, all_fin a4 _ _ _ _ h4⟩

end Cert.Finite

end
-- ==== Proof.lean ====
module

public import proofs.«01_k».proof.Defs
public import proofs.«01_k».proof.Proof.Kernel.Final
public import proofs.«01_k».proof.Proof.KernelIdeal.Value
public import proofs.«01_k».proof.Proof.ReferenceIdeal.Value
public import proofs.«01_k».proof.Proof.Finite
public import Idealize.ShloMosaic.Lib.Quiescent

@[expose] public section

noncomputable section

namespace Cert.Proof

open Idealize.ShloMosaic Idealize.ShloMosaic.TcCoe Idealize.SL.Sem Cert.Layers

/-- The program as it runs ends with its arguments as they were and every semaphore counter zero. -/
theorem frame_p : Cert.quiescent_Kernel (hKernel := Cert.Kernel.Gen.facts) := fun m ρ _ =>
  (θ_run Cert.Kernel.defs _ _).mono (fun _ h => ⟨fun c => (h.1 c).2.2, h.2⟩) (Cert.Kernel.Hand.run (F := Bits) m ρ)

/-- The same of the program over the extended reals. -/
theorem frame_pi : Cert.quiescent_KernelIdeal (hKernelIdeal := Cert.KernelIdeal.Gen.facts) := fun m ρ _ =>
  (θ_run Cert.KernelIdeal.defs _ _).mono (fun _ h => ⟨fun c => (h.1 c).2.2, h.2⟩) (Cert.KernelIdeal.Hand.run (F := Ideal) m ρ)

/-- The same of the reference, which has no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩) (Cert.ReferenceIdeal.Hand.run m ρ)

section Values

variable (A : FVec Ideal Cert.ReferenceIdeal.S2x4096x4096 .f32) (W0 : FVec Ideal Cert.ReferenceIdeal.S2x4096x64 .f32)
  (B0 : FVec Ideal Cert.ReferenceIdeal.S2x2 .f32) (W1 : FVec Ideal Cert.ReferenceIdeal.S2x64x64 .f32) (B1 : FVec Ideal Cert.ReferenceIdeal.S2x2 .f32)

/-- Both groupings of the second layer agree where every input is a real number. -/
theorem second_eq (hA : ∀ i, Fin' (A i)) (hW0 : ∀ i, Fin' (W0 i)) (hB0 : ∀ i, Fin' (B0 i)) (hW1 : ∀ i, Fin' (W1 i)) (hB1 : ∀ i, Fin' (B1 i))
    (n : Fin 4096) (l : Fin 64) :
    Cert.ReferenceIdeal.Hand.second A (Cert.ReferenceIdeal.Hand.rect (Cert.ReferenceIdeal.Hand.first A W0 B0)) W1 B1 (ix2 n l)
      = conv (fun r n k => A (ix3 r n k))
          (fun r => prod (relu (conv (fun r n k => A (ix3 r n k)) (mix (fun r s => B0 (ix2 r s)) fun s (k : Fin 4096) (l : Fin 64) => W0 (ix3 s k l))))
            (mix (fun r s => B1 (ix2 r s)) (fun s (j : Fin 64) (l : Fin 64) => W1 (ix3 s j l)) r)) n l := by
  rw [Cert.ReferenceIdeal.Hand.second_apply]
  have hh : (fun (k : Fin 4096) (j : Fin 64) => Cert.ReferenceIdeal.Hand.rect (Cert.ReferenceIdeal.Hand.first A W0 B0) (ix2 k j))
      = relu (conv (fun r n k => A (ix3 r n k)) (mix (fun r s => B0 (ix2 r s)) fun s (k : Fin 4096) (l : Fin 64) => W0 (ix3 s k l))) := by
    funext k j
    rw [Cert.ReferenceIdeal.Hand.rect_apply, Cert.ReferenceIdeal.Hand.first_apply]
    rfl
  rw [hh]
  refine (conv_prod (fun r n k => hA _) (fun k j => ?_) (fun r j l => ?_) n l).symm
  · exact Fin'.relu (conv_fin (fun r n k => hA _) (fun r k l => mix_fin (fun r s => hB0 _) (fun s k l => hW0 _) r k l) k j)
  · exact mix_fin (fun r s => hB1 _) (fun s k l => hW1 _) r j l

end Values

/-- Over the extended reals, on inputs that are all real numbers, the kernel's two results are the reference's. -/
theorem value : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hpre hag
  refine ⟨fun c => Cert.KernelIdeal.Hand.OUT1 m c,
    fun c => shapeCast Cert.KernelIdeal.S1x128 (Cert.KernelIdeal.Hand.ROWS m c) Cert.KernelIdeal.Gen.facts.shapeCasts_S2x64_S1x128, ?_, ?_⟩
  · exact (θ_run Cert.KernelIdeal.defs _ _).mono (fun _ h => h.1) (Cert.KernelIdeal.Hand.run (F := Ideal) m g)
  refine (θ_run Cert.ReferenceIdeal.defs _ _).mono (fun _ h c => ?_) (Cert.ReferenceIdeal.Hand.run m' g')
  obtain ⟨h1, h2, h3⟩ := h c
  obtain ⟨e0, e1, e2, e3, e4⟩ := hag c
  obtain ⟨f0, f1, f2, f3, f4⟩ := @Cert.Finite.inputs Cert.Finite.facts _ _ _ _ _ (hpre c)
  have hs := second_eq _ _ _ _ _ f0 f1 f2 f3 f4
  refine ⟨h1.trans ?_, h2.trans ?_, h3⟩
  · rw [e0, e1, e2, e3, e4]
    funext y
    obtain ⟨n, l, rfl⟩ : ∃ (n : Fin 4096) (l : Fin 64), y = ix2 n l := ⟨y 0, y 1, eq_ix2 y⟩
    exact (hs n l).trans (Cert.KernelIdeal.Hand.OUT1_apply m c n l).symm
  · rw [e0, e1, e2, e3, e4]
    funext y
    obtain ⟨z, l, rfl⟩ : ∃ (z : Fin 1) (l : Fin 128), y = ix2 z l := ⟨y 0, y 1, eq_ix2 y⟩
    obtain rfl : z = 0 := Subsingleton.elim _ _
    refine (Cert.ReferenceIdeal.Hand.sums_apply _ _ l).trans (Eq.trans ?_ (Cert.KernelIdeal.Hand.ROWS_apply m c l).symm)
    by_cases hl : l.val < 64
    · rw [dif_pos hl, dif_pos hl]
      exact Finset.sum_congr rfl fun n _ => Cert.ReferenceIdeal.Hand.first_apply _ _ _ n _
    · rw [dif_neg hl, dif_neg hl]
      exact Finset.sum_congr rfl fun n _ => hs n _

theorem claim : Cert.Claim :=
  ⟨Cert.Kernel.Gen.facts, Cert.KernelIdeal.Gen.facts, Cert.ReferenceIdeal.Gen.facts, Cert.Finite.facts,
    frame_p, frame_pi, fun m ρ _ => frame_pi m ρ trivial, frame_ri, fun m ρ _ => frame_ri m ρ trivial, trivial, value⟩

end Cert.Proof

end
